-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16384x2626 : Shape := ⟨2, ![16384, 2626]⟩
abbrev S_ : Shape := ⟨0, ![]⟩

class Facts : Prop where
  bcast_S_S16384x2626 : S_.BroadcastsInDim S16384x2626 (![] : Fin 0 → Fin S16384x2626.rank)
  reducesTo_S16384x2626_S_d0_1 : S16384x2626.ReducesTo [0, 1] S_
  h_S_ : 0 < S_.numel

variable [Facts]

def fn {F : FTy → Type} [FloatOps F] (main_arg0 : FVec F S16384x2626 .f32) : IVec S_ 1 :=
  let main_v0 : FVec F S16384x2626 .f32 := Host.absf main_arg0
  let main_cst : FVec F S_ .f32 := constant S_ .f32 0x7F800000#32
  let main_v1 : FVec F S16384x2626 .f32 := broadcastInDim S16384x2626 ![] bcast_S_S16384x2626 main_cst
  let main_v2 : IVec S16384x2626 1 := cmpf .olt main_v0 main_v1
  let main_c : IVec S_ 1 := constantI S_ 1 1#1
  let main_v3 : IVec S_ 1 := (fun x v => Host.reduce IntOp.andi x v reducesTo_S16384x2626_S_d0_1 h_S_) main_v2 main_c
  main_v3
-- ==== Kernel.lean ====
abbrev S16384x2626 : Shape := ⟨2, ![16384, 2626]⟩
abbrev S43024384 : Shape := ⟨1, ![43024384]⟩
abbrev S638976 : Shape := ⟨1, ![638976]⟩
abbrev S42016 : Shape := ⟨1, ![42016]⟩
abbrev S19968 : Shape := ⟨1, ![19968]⟩
abbrev S_ : Shape := ⟨0, ![]⟩
abbrev S16 : Shape := ⟨1, ![16]⟩
abbrev S16384x39 : Shape := ⟨2, ![16384, 39]⟩

abbrev nBuf : Table → Nat
  | .hbm => 4
  | .local .scVector .vmem => 3
  | _ => 0

abbrev bufTy : (tb : Table) → Fin (nBuf tb) → BufTy
  | .hbm, ⟨0, _⟩ => ⟨S16384x2626, .f32⟩
  | .hbm, ⟨1, _⟩ => ⟨S43024384, .f32⟩
  | .hbm, ⟨2, _⟩ => ⟨S638976, .f32⟩
  | .hbm, ⟨3, _⟩ => ⟨S16384x39, .f32⟩
  | .local .scVector .vmem, ⟨0, _⟩ => ⟨S42016, .f32⟩
  | .local .scVector .vmem, ⟨1, _⟩ => ⟨S42016, .f32⟩
  | .local .scVector .vmem, ⟨2, _⟩ => ⟨S19968, .f32⟩
  | _, _ => ⟨S16384x2626, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32 : BitVec 32 := 0#32
  let v6 : BitVec 32 := Scalar.addi v2 c0_i32
  let c2626_i32_0 : BitVec 32 := 2626#32
  let v7 : BitVec 32 := Scalar.muli v6 c2626_i32_0
  v7
def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v6 : BitVec 32 := Scalar.addi v2 c0_i32
  let c2626_i32_0 : BitVec 32 := 2626#32
  let v7 : BitVec 32 := Scalar.muli v6 c2626_i32_0
  let v8 : BitVec 32 := v7
  ![v8.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c16_i32 : BitVec 32 := 16#32
  let v11 : BitVec 32 := Scalar.addi v2 c16_i32
  let c2626_i32_1 : BitVec 32 := 2626#32
  let v12 : BitVec 32 := Scalar.muli v11 c2626_i32_1
  v12
@[reducible] def k0_t1_loop : Scf.Loop 32 :=
  let c0_i32_3 : BitVec 32 := 0#32
  let c16_i32_4 : BitVec 32 := 16#32
  let v16 : BitVec 32 := Scalar.addi c0_i32_3 c16_i32_4
  let c1_i32 : BitVec 32 := 1#32
  ⟨c0_i32_3, v16, c1_i32⟩
def k0_mult3 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c16_i32_7 : BitVec 32 := 16#32
  let v21 : BitVec 32 := Scalar.muli v20 c16_i32_7
  let v22 : BitVec 32 := Scalar.addi v2 v21
  let c2626_i32_8 : BitVec 32 := 2626#32
  let v23 : BitVec 32 := Scalar.muli v22 c2626_i32_8
  v23
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c16_i32_7 : BitVec 32 := 16#32
  let v21 : BitVec 32 := Scalar.muli v20 c16_i32_7
  let v22 : BitVec 32 := Scalar.addi v2 v21
  let c2626_i32_8 : BitVec 32 := 2626#32
  let v23 : BitVec 32 := Scalar.muli v22 c2626_i32_8
  let v24 : BitVec 32 := v23
  ![v24.toNat]

def k0_chk1 (v34 : IVec S16 32) : Prop :=
  (∀ a x, ((![v34] : Fin 1 → IVec S16 32) a x).toNat < S42016.size a)
theorem k0_idx1_inb : ∀ (v34 : IVec S16 32) (k0_hw1 : k0_chk1 v34), ∀ a x, ((![v34] : Fin 1 → IVec S16 32) a x).toNat < S42016.size a := fun v34 k0_hw1 => k0_hw1

def k0_chk2 (v37 : IVec S16 32) : Prop :=
  (∀ a x, ((![v37] : Fin 1 → IVec S16 32) a x).toNat < S19968.size a)
theorem k0_idx2_inb : ∀ (v37 : IVec S16 32) (k0_hw2 : k0_chk2 v37), ∀ a x, ((![v37] : Fin 1 → IVec S16 32) a x).toNat < S19968.size a := fun v37 k0_hw2 => k0_hw2

def k0_chk3 (v39 : IVec S16 32) : Prop :=
  (∀ a x, ((![v39] : Fin 1 → IVec S16 32) a x).toNat < S42016.size a)
theorem k0_idx3_inb : ∀ (v39 : IVec S16 32) (k0_hw3 : k0_chk3 v39), ∀ a x, ((![v39] : Fin 1 → IVec S16 32) a x).toNat < S42016.size a := fun v39 k0_hw3 => k0_hw3

def k0_chk4 (v42 : IVec S16 32) : Prop :=
  (∀ a x, ((![v42] : Fin 1 → IVec S16 32) a x).toNat < S19968.size a)
theorem k0_idx4_inb : ∀ (v42 : IVec S16 32) (k0_hw4 : k0_chk4 v42), ∀ a x, ((![v42] : Fin 1 → IVec S16 32) a x).toNat < S19968.size a := fun v42 k0_hw4 => k0_hw4

def k0_chk5 (v44 : IVec S16 32) : Prop :=
  (∀ a x, ((![v44] : Fin 1 → IVec S16 32) a x).toNat < S42016.size a)
theorem k0_idx5_inb : ∀ (v44 : IVec S16 32) (k0_hw5 : k0_chk5 v44), ∀ a x, ((![v44] : Fin 1 → IVec S16 32) a x).toNat < S42016.size a := fun v44 k0_hw5 => k0_hw5

def k0_chk6 (v47 : IVec S16 32) : Prop :=
  (∀ a x, ((![v47] : Fin 1 → IVec S16 32) a x).toNat < S19968.size a)
theorem k0_idx6_inb : ∀ (v47 : IVec S16 32) (k0_hw6 : k0_chk6 v47), ∀ a x, ((![v47] : Fin 1 → IVec S16 32) a x).toNat < S19968.size a := fun v47 k0_hw6 => k0_hw6

def k0_chk7 (v49 : IVec S16 32) : Prop :=
  (∀ a x, ((![v49] : Fin 1 → IVec S16 32) a x).toNat < S42016.size a)
theorem k0_idx7_inb : ∀ (v49 : IVec S16 32) (k0_hw7 : k0_chk7 v49), ∀ a x, ((![v49] : Fin 1 → IVec S16 32) a x).toNat < S42016.size a := fun v49 k0_hw7 => k0_hw7

def k0_chk8 (v52 : IVec S16 32) : Prop :=
  (∀ a x, ((![v52] : Fin 1 → IVec S16 32) a x).toNat < S19968.size a)
theorem k0_idx8_inb : ∀ (v52 : IVec S16 32) (k0_hw8 : k0_chk8 v52), ∀ a x, ((![v52] : Fin 1 → IVec S16 32) a x).toNat < S19968.size a := fun v52 k0_hw8 => k0_hw8

def k0_chk9 (v54 : IVec S16 32) : Prop :=
  (∀ a x, ((![v54] : Fin 1 → IVec S16 32) a x).toNat < S42016.size a)
theorem k0_idx9_inb : ∀ (v54 : IVec S16 32) (k0_hw9 : k0_chk9 v54), ∀ a x, ((![v54] : Fin 1 → IVec S16 32) a x).toNat < S42016.size a := fun v54 k0_hw9 => k0_hw9

def k0_chk10 (v57 : IVec S16 32) : Prop :=
  (∀ a x, ((![v57] : Fin 1 → IVec S16 32) a x).toNat < S19968.size a)
theorem k0_idx10_inb : ∀ (v57 : IVec S16 32) (k0_hw10 : k0_chk10 v57), ∀ a x, ((![v57] : Fin 1 → IVec S16 32) a x).toNat < S19968.size a := fun v57 k0_hw10 => k0_hw10

def k0_chk11 (v59 : IVec S16 32) : Prop :=
  (∀ a x, ((![v59] : Fin 1 → IVec S16 32) a x).toNat < S42016.size a)
theorem k0_idx11_inb : ∀ (v59 : IVec S16 32) (k0_hw11 : k0_chk11 v59), ∀ a x, ((![v59] : Fin 1 → IVec S16 32) a x).toNat < S42016.size a := fun v59 k0_hw11 => k0_hw11

def k0_chk12 (v62 : IVec S16 32) : Prop :=
  (∀ a x, ((![v62] : Fin 1 → IVec S16 32) a x).toNat < S19968.size a)
theorem k0_idx12_inb : ∀ (v62 : IVec S16 32) (k0_hw12 : k0_chk12 v62), ∀ a x, ((![v62] : Fin 1 → IVec S16 32) a x).toNat < S19968.size a := fun v62 k0_hw12 => k0_hw12

def k0_chk13 (v64 : IVec S16 32) : Prop :=
  (∀ a x, ((![v64] : Fin 1 → IVec S16 32) a x).toNat < S42016.size a)
theorem k0_idx13_inb : ∀ (v64 : IVec S16 32) (k0_hw13 : k0_chk13 v64), ∀ a x, ((![v64] : Fin 1 → IVec S16 32) a x).toNat < S42016.size a := fun v64 k0_hw13 => k0_hw13

def k0_chk14 (v67 : IVec S16 32) : Prop :=
  (∀ a x, ((![v67] : Fin 1 → IVec S16 32) a x).toNat < S19968.size a)
theorem k0_idx14_inb : ∀ (v67 : IVec S16 32) (k0_hw14 : k0_chk14 v67), ∀ a x, ((![v67] : Fin 1 → IVec S16 32) a x).toNat < S19968.size a := fun v67 k0_hw14 => k0_hw14

def k0_chk15 (v69 : IVec S16 32) : Prop :=
  (∀ a x, ((![v69] : Fin 1 → IVec S16 32) a x).toNat < S42016.size a)
theorem k0_idx15_inb : ∀ (v69 : IVec S16 32) (k0_hw15 : k0_chk15 v69), ∀ a x, ((![v69] : Fin 1 → IVec S16 32) a x).toNat < S42016.size a := fun v69 k0_hw15 => k0_hw15

def k0_chk16 (v72 : IVec S16 32) : Prop :=
  (∀ a x, ((![v72] : Fin 1 → IVec S16 32) a x).toNat < S19968.size a)
theorem k0_idx16_inb : ∀ (v72 : IVec S16 32) (k0_hw16 : k0_chk16 v72), ∀ a x, ((![v72] : Fin 1 → IVec S16 32) a x).toNat < S19968.size a := fun v72 k0_hw16 => k0_hw16

def k0_chk17 (v74 : IVec S16 32) : Prop :=
  (∀ a x, ((![v74] : Fin 1 → IVec S16 32) a x).toNat < S42016.size a)
theorem k0_idx17_inb : ∀ (v74 : IVec S16 32) (k0_hw17 : k0_chk17 v74), ∀ a x, ((![v74] : Fin 1 → IVec S16 32) a x).toNat < S42016.size a := fun v74 k0_hw17 => k0_hw17

def k0_chk18 (v77 : IVec S16 32) : Prop :=
  (∀ a x, ((![v77] : Fin 1 → IVec S16 32) a x).toNat < S19968.size a)
theorem k0_idx18_inb : ∀ (v77 : IVec S16 32) (k0_hw18 : k0_chk18 v77), ∀ a x, ((![v77] : Fin 1 → IVec S16 32) a x).toNat < S19968.size a := fun v77 k0_hw18 => k0_hw18

def k0_chk19 (v79 : IVec S16 32) : Prop :=
  (∀ a x, ((![v79] : Fin 1 → IVec S16 32) a x).toNat < S42016.size a)
theorem k0_idx19_inb : ∀ (v79 : IVec S16 32) (k0_hw19 : k0_chk19 v79), ∀ a x, ((![v79] : Fin 1 → IVec S16 32) a x).toNat < S42016.size a := fun v79 k0_hw19 => k0_hw19

def k0_chk20 (v82 : IVec S16 32) : Prop :=
  (∀ a x, ((![v82] : Fin 1 → IVec S16 32) a x).toNat < S19968.size a)
theorem k0_idx20_inb : ∀ (v82 : IVec S16 32) (k0_hw20 : k0_chk20 v82), ∀ a x, ((![v82] : Fin 1 → IVec S16 32) a x).toNat < S19968.size a := fun v82 k0_hw20 => k0_hw20

def k0_chk21 (v84 : IVec S16 32) : Prop :=
  (∀ a x, ((![v84] : Fin 1 → IVec S16 32) a x).toNat < S42016.size a)
theorem k0_idx21_inb : ∀ (v84 : IVec S16 32) (k0_hw21 : k0_chk21 v84), ∀ a x, ((![v84] : Fin 1 → IVec S16 32) a x).toNat < S42016.size a := fun v84 k0_hw21 => k0_hw21

def k0_chk22 (v87 : IVec S16 32) : Prop :=
  (∀ a x, ((![v87] : Fin 1 → IVec S16 32) a x).toNat < S19968.size a)
theorem k0_idx22_inb : ∀ (v87 : IVec S16 32) (k0_hw22 : k0_chk22 v87), ∀ a x, ((![v87] : Fin 1 → IVec S16 32) a x).toNat < S19968.size a := fun v87 k0_hw22 => k0_hw22

def k0_chk23 (v89 : IVec S16 32) : Prop :=
  (∀ a x, ((![v89] : Fin 1 → IVec S16 32) a x).toNat < S42016.size a)
theorem k0_idx23_inb : ∀ (v89 : IVec S16 32) (k0_hw23 : k0_chk23 v89), ∀ a x, ((![v89] : Fin 1 → IVec S16 32) a x).toNat < S42016.size a := fun v89 k0_hw23 => k0_hw23

def k0_chk24 (v92 : IVec S16 32) : Prop :=
  (∀ a x, ((![v92] : Fin 1 → IVec S16 32) a x).toNat < S19968.size a)
theorem k0_idx24_inb : ∀ (v92 : IVec S16 32) (k0_hw24 : k0_chk24 v92), ∀ a x, ((![v92] : Fin 1 → IVec S16 32) a x).toNat < S19968.size a := fun v92 k0_hw24 => k0_hw24

def k0_chk25 (v94 : IVec S16 32) : Prop :=
  (∀ a x, ((![v94] : Fin 1 → IVec S16 32) a x).toNat < S42016.size a)
theorem k0_idx25_inb : ∀ (v94 : IVec S16 32) (k0_hw25 : k0_chk25 v94), ∀ a x, ((![v94] : Fin 1 → IVec S16 32) a x).toNat < S42016.size a := fun v94 k0_hw25 => k0_hw25

def k0_chk26 (v97 : IVec S16 32) : Prop :=
  (∀ a x, ((![v97] : Fin 1 → IVec S16 32) a x).toNat < S19968.size a)
theorem k0_idx26_inb : ∀ (v97 : IVec S16 32) (k0_hw26 : k0_chk26 v97), ∀ a x, ((![v97] : Fin 1 → IVec S16 32) a x).toNat < S19968.size a := fun v97 k0_hw26 => k0_hw26
@[reducible] def k0_t2_loop : Scf.Loop 32 :=
  let c0_i32_24 : BitVec 32 := 0#32
  let c26_i32 : BitVec 32 := 26#32
  let v98 : BitVec 32 := Scalar.addi c0_i32_24 c26_i32
  let c1_i32_25 : BitVec 32 := 1#32
  ⟨c0_i32_24, v98, c1_i32_25⟩

def k0_chk27 (v193 : IVec S16 32) : Prop :=
  (∀ a x, ((![v193] : Fin 1 → IVec S16 32) a x).toNat < S42016.size a)
theorem k0_idx27_inb : ∀ (v193 : IVec S16 32) (k0_hw27 : k0_chk27 v193), ∀ a x, ((![v193] : Fin 1 → IVec S16 32) a x).toNat < S42016.size a := fun v193 k0_hw27 => k0_hw27

def k0_chk28 (v195 : IVec S16 32) : Prop :=
  (∀ a x, ((![v195] : Fin 1 → IVec S16 32) a x).toNat < S42016.size a)
theorem k0_idx28_inb : ∀ (v195 : IVec S16 32) (k0_hw28 : k0_chk28 v195), ∀ a x, ((![v195] : Fin 1 → IVec S16 32) a x).toNat < S42016.size a := fun v195 k0_hw28 => k0_hw28

def k0_chk29 (v197 : IVec S16 32) : Prop :=
  (∀ a x, ((![v197] : Fin 1 → IVec S16 32) a x).toNat < S42016.size a)
theorem k0_idx29_inb : ∀ (v197 : IVec S16 32) (k0_hw29 : k0_chk29 v197), ∀ a x, ((![v197] : Fin 1 → IVec S16 32) a x).toNat < S42016.size a := fun v197 k0_hw29 => k0_hw29

def k0_chk30 (v199 : IVec S16 32) : Prop :=
  (∀ a x, ((![v199] : Fin 1 → IVec S16 32) a x).toNat < S42016.size a)
theorem k0_idx30_inb : ∀ (v199 : IVec S16 32) (k0_hw30 : k0_chk30 v199), ∀ a x, ((![v199] : Fin 1 → IVec S16 32) a x).toNat < S42016.size a := fun v199 k0_hw30 => k0_hw30

def k0_chk31 (v201 : IVec S16 32) : Prop :=
  (∀ a x, ((![v201] : Fin 1 → IVec S16 32) a x).toNat < S42016.size a)
theorem k0_idx31_inb : ∀ (v201 : IVec S16 32) (k0_hw31 : k0_chk31 v201), ∀ a x, ((![v201] : Fin 1 → IVec S16 32) a x).toNat < S42016.size a := fun v201 k0_hw31 => k0_hw31

def k0_chk32 (v207 : IVec S16 32) : Prop :=
  (∀ a x, ((![v207] : Fin 1 → IVec S16 32) a x).toNat < S42016.size a)
theorem k0_idx32_inb : ∀ (v207 : IVec S16 32) (k0_hw32 : k0_chk32 v207), ∀ a x, ((![v207] : Fin 1 → IVec S16 32) a x).toNat < S42016.size a := fun v207 k0_hw32 => k0_hw32

def k0_chk33 (v213 : IVec S16 32) : Prop :=
  (∀ a x, ((![v213] : Fin 1 → IVec S16 32) a x).toNat < S42016.size a)
theorem k0_idx33_inb : ∀ (v213 : IVec S16 32) (k0_hw33 : k0_chk33 v213), ∀ a x, ((![v213] : Fin 1 → IVec S16 32) a x).toNat < S42016.size a := fun v213 k0_hw33 => k0_hw33

def k0_chk34 (v219 : IVec S16 32) : Prop :=
  (∀ a x, ((![v219] : Fin 1 → IVec S16 32) a x).toNat < S42016.size a)
theorem k0_idx34_inb : ∀ (v219 : IVec S16 32) (k0_hw34 : k0_chk34 v219), ∀ a x, ((![v219] : Fin 1 → IVec S16 32) a x).toNat < S42016.size a := fun v219 k0_hw34 => k0_hw34

def k0_chk35 (v225 : IVec S16 32) : Prop :=
  (∀ a x, ((![v225] : Fin 1 → IVec S16 32) a x).toNat < S42016.size a)
theorem k0_idx35_inb : ∀ (v225 : IVec S16 32) (k0_hw35 : k0_chk35 v225), ∀ a x, ((![v225] : Fin 1 → IVec S16 32) a x).toNat < S42016.size a := fun v225 k0_hw35 => k0_hw35

def k0_chk36 (v231 : IVec S16 32) : Prop :=
  (∀ a x, ((![v231] : Fin 1 → IVec S16 32) a x).toNat < S42016.size a)
theorem k0_idx36_inb : ∀ (v231 : IVec S16 32) (k0_hw36 : k0_chk36 v231), ∀ a x, ((![v231] : Fin 1 → IVec S16 32) a x).toNat < S42016.size a := fun v231 k0_hw36 => k0_hw36

def k0_chk37 (v237 : IVec S16 32) : Prop :=
  (∀ a x, ((![v237] : Fin 1 → IVec S16 32) a x).toNat < S42016.size a)
theorem k0_idx37_inb : ∀ (v237 : IVec S16 32) (k0_hw37 : k0_chk37 v237), ∀ a x, ((![v237] : Fin 1 → IVec S16 32) a x).toNat < S42016.size a := fun v237 k0_hw37 => k0_hw37

def k0_chk38 (v243 : IVec S16 32) : Prop :=
  (∀ a x, ((![v243] : Fin 1 → IVec S16 32) a x).toNat < S42016.size a)
theorem k0_idx38_inb : ∀ (v243 : IVec S16 32) (k0_hw38 : k0_chk38 v243), ∀ a x, ((![v243] : Fin 1 → IVec S16 32) a x).toNat < S42016.size a := fun v243 k0_hw38 => k0_hw38

def k0_chk39 (v249 : IVec S16 32) : Prop :=
  (∀ a x, ((![v249] : Fin 1 → IVec S16 32) a x).toNat < S42016.size a)
theorem k0_idx39_inb : ∀ (v249 : IVec S16 32) (k0_hw39 : k0_chk39 v249), ∀ a x, ((![v249] : Fin 1 → IVec S16 32) a x).toNat < S42016.size a := fun v249 k0_hw39 => k0_hw39

def k0_chk40 (v255 : IVec S16 32) : Prop :=
  (∀ a x, ((![v255] : Fin 1 → IVec S16 32) a x).toNat < S42016.size a)
theorem k0_idx40_inb : ∀ (v255 : IVec S16 32) (k0_hw40 : k0_chk40 v255), ∀ a x, ((![v255] : Fin 1 → IVec S16 32) a x).toNat < S42016.size a := fun v255 k0_hw40 => k0_hw40

def k0_chk41 (v261 : IVec S16 32) : Prop :=
  (∀ a x, ((![v261] : Fin 1 → IVec S16 32) a x).toNat < S42016.size a)
theorem k0_idx41_inb : ∀ (v261 : IVec S16 32) (k0_hw41 : k0_chk41 v261), ∀ a x, ((![v261] : Fin 1 → IVec S16 32) a x).toNat < S42016.size a := fun v261 k0_hw41 => k0_hw41

def k0_chk42 (v267 : IVec S16 32) : Prop :=
  (∀ a x, ((![v267] : Fin 1 → IVec S16 32) a x).toNat < S42016.size a)
theorem k0_idx42_inb : ∀ (v267 : IVec S16 32) (k0_hw42 : k0_chk42 v267), ∀ a x, ((![v267] : Fin 1 → IVec S16 32) a x).toNat < S42016.size a := fun v267 k0_hw42 => k0_hw42

def k0_chk43 (v273 : IVec S16 32) : Prop :=
  (∀ a x, ((![v273] : Fin 1 → IVec S16 32) a x).toNat < S42016.size a)
theorem k0_idx43_inb : ∀ (v273 : IVec S16 32) (k0_hw43 : k0_chk43 v273), ∀ a x, ((![v273] : Fin 1 → IVec S16 32) a x).toNat < S42016.size a := fun v273 k0_hw43 => k0_hw43

def k0_chk44 (v279 : IVec S16 32) : Prop :=
  (∀ a x, ((![v279] : Fin 1 → IVec S16 32) a x).toNat < S42016.size a)
theorem k0_idx44_inb : ∀ (v279 : IVec S16 32) (k0_hw44 : k0_chk44 v279), ∀ a x, ((![v279] : Fin 1 → IVec S16 32) a x).toNat < S42016.size a := fun v279 k0_hw44 => k0_hw44

def k0_chk45 (v285 : IVec S16 32) : Prop :=
  (∀ a x, ((![v285] : Fin 1 → IVec S16 32) a x).toNat < S42016.size a)
theorem k0_idx45_inb : ∀ (v285 : IVec S16 32) (k0_hw45 : k0_chk45 v285), ∀ a x, ((![v285] : Fin 1 → IVec S16 32) a x).toNat < S42016.size a := fun v285 k0_hw45 => k0_hw45

def k0_chk46 (v291 : IVec S16 32) : Prop :=
  (∀ a x, ((![v291] : Fin 1 → IVec S16 32) a x).toNat < S42016.size a)
theorem k0_idx46_inb : ∀ (v291 : IVec S16 32) (k0_hw46 : k0_chk46 v291), ∀ a x, ((![v291] : Fin 1 → IVec S16 32) a x).toNat < S42016.size a := fun v291 k0_hw46 => k0_hw46

def k0_chk47 (v297 : IVec S16 32) : Prop :=
  (∀ a x, ((![v297] : Fin 1 → IVec S16 32) a x).toNat < S42016.size a)
theorem k0_idx47_inb : ∀ (v297 : IVec S16 32) (k0_hw47 : k0_chk47 v297), ∀ a x, ((![v297] : Fin 1 → IVec S16 32) a x).toNat < S42016.size a := fun v297 k0_hw47 => k0_hw47

def k0_chk48 (v303 : IVec S16 32) : Prop :=
  (∀ a x, ((![v303] : Fin 1 → IVec S16 32) a x).toNat < S42016.size a)
theorem k0_idx48_inb : ∀ (v303 : IVec S16 32) (k0_hw48 : k0_chk48 v303), ∀ a x, ((![v303] : Fin 1 → IVec S16 32) a x).toNat < S42016.size a := fun v303 k0_hw48 => k0_hw48

def k0_chk49 (v309 : IVec S16 32) : Prop :=
  (∀ a x, ((![v309] : Fin 1 → IVec S16 32) a x).toNat < S42016.size a)
theorem k0_idx49_inb : ∀ (v309 : IVec S16 32) (k0_hw49 : k0_chk49 v309), ∀ a x, ((![v309] : Fin 1 → IVec S16 32) a x).toNat < S42016.size a := fun v309 k0_hw49 => k0_hw49

def k0_chk50 (v315 : IVec S16 32) : Prop :=
  (∀ a x, ((![v315] : Fin 1 → IVec S16 32) a x).toNat < S42016.size a)
theorem k0_idx50_inb : ∀ (v315 : IVec S16 32) (k0_hw50 : k0_chk50 v315), ∀ a x, ((![v315] : Fin 1 → IVec S16 32) a x).toNat < S42016.size a := fun v315 k0_hw50 => k0_hw50

def k0_chk51 (v321 : IVec S16 32) : Prop :=
  (∀ a x, ((![v321] : Fin 1 → IVec S16 32) a x).toNat < S42016.size a)
theorem k0_idx51_inb : ∀ (v321 : IVec S16 32) (k0_hw51 : k0_chk51 v321), ∀ a x, ((![v321] : Fin 1 → IVec S16 32) a x).toNat < S42016.size a := fun v321 k0_hw51 => k0_hw51

def k0_chk52 (v327 : IVec S16 32) : Prop :=
  (∀ a x, ((![v327] : Fin 1 → IVec S16 32) a x).toNat < S42016.size a)
theorem k0_idx52_inb : ∀ (v327 : IVec S16 32) (k0_hw52 : k0_chk52 v327), ∀ a x, ((![v327] : Fin 1 → IVec S16 32) a x).toNat < S42016.size a := fun v327 k0_hw52 => k0_hw52

def k0_chk53 (v333 : IVec S16 32) : Prop :=
  (∀ a x, ((![v333] : Fin 1 → IVec S16 32) a x).toNat < S42016.size a)
theorem k0_idx53_inb : ∀ (v333 : IVec S16 32) (k0_hw53 : k0_chk53 v333), ∀ a x, ((![v333] : Fin 1 → IVec S16 32) a x).toNat < S42016.size a := fun v333 k0_hw53 => k0_hw53

def k0_chk54 (v339 : IVec S16 32) : Prop :=
  (∀ a x, ((![v339] : Fin 1 → IVec S16 32) a x).toNat < S42016.size a)
theorem k0_idx54_inb : ∀ (v339 : IVec S16 32) (k0_hw54 : k0_chk54 v339), ∀ a x, ((![v339] : Fin 1 → IVec S16 32) a x).toNat < S42016.size a := fun v339 k0_hw54 => k0_hw54

def k0_chk55 (v345 : IVec S16 32) : Prop :=
  (∀ a x, ((![v345] : Fin 1 → IVec S16 32) a x).toNat < S42016.size a)
theorem k0_idx55_inb : ∀ (v345 : IVec S16 32) (k0_hw55 : k0_chk55 v345), ∀ a x, ((![v345] : Fin 1 → IVec S16 32) a x).toNat < S42016.size a := fun v345 k0_hw55 => k0_hw55

def k0_chk56 (v351 : IVec S16 32) : Prop :=
  (∀ a x, ((![v351] : Fin 1 → IVec S16 32) a x).toNat < S42016.size a)
theorem k0_idx56_inb : ∀ (v351 : IVec S16 32) (k0_hw56 : k0_chk56 v351), ∀ a x, ((![v351] : Fin 1 → IVec S16 32) a x).toNat < S42016.size a := fun v351 k0_hw56 => k0_hw56

def k0_chk57 (v357 : IVec S16 32) : Prop :=
  (∀ a x, ((![v357] : Fin 1 → IVec S16 32) a x).toNat < S42016.size a)
theorem k0_idx57_inb : ∀ (v357 : IVec S16 32) (k0_hw57 : k0_chk57 v357), ∀ a x, ((![v357] : Fin 1 → IVec S16 32) a x).toNat < S42016.size a := fun v357 k0_hw57 => k0_hw57

def k0_chk58 (v363 : IVec S16 32) : Prop :=
  (∀ a x, ((![v363] : Fin 1 → IVec S16 32) a x).toNat < S42016.size a)
theorem k0_idx58_inb : ∀ (v363 : IVec S16 32) (k0_hw58 : k0_chk58 v363), ∀ a x, ((![v363] : Fin 1 → IVec S16 32) a x).toNat < S42016.size a := fun v363 k0_hw58 => k0_hw58

def k0_chk59 (v369 : IVec S16 32) : Prop :=
  (∀ a x, ((![v369] : Fin 1 → IVec S16 32) a x).toNat < S42016.size a)
theorem k0_idx59_inb : ∀ (v369 : IVec S16 32) (k0_hw59 : k0_chk59 v369), ∀ a x, ((![v369] : Fin 1 → IVec S16 32) a x).toNat < S42016.size a := fun v369 k0_hw59 => k0_hw59

def k0_chk60 (v375 : IVec S16 32) : Prop :=
  (∀ a x, ((![v375] : Fin 1 → IVec S16 32) a x).toNat < S42016.size a)
theorem k0_idx60_inb : ∀ (v375 : IVec S16 32) (k0_hw60 : k0_chk60 v375), ∀ a x, ((![v375] : Fin 1 → IVec S16 32) a x).toNat < S42016.size a := fun v375 k0_hw60 => k0_hw60

def k0_chk61 (v381 : IVec S16 32) : Prop :=
  (∀ a x, ((![v381] : Fin 1 → IVec S16 32) a x).toNat < S42016.size a)
theorem k0_idx61_inb : ∀ (v381 : IVec S16 32) (k0_hw61 : k0_chk61 v381), ∀ a x, ((![v381] : Fin 1 → IVec S16 32) a x).toNat < S42016.size a := fun v381 k0_hw61 => k0_hw61

def k0_chk62 (v387 : IVec S16 32) : Prop :=
  (∀ a x, ((![v387] : Fin 1 → IVec S16 32) a x).toNat < S42016.size a)
theorem k0_idx62_inb : ∀ (v387 : IVec S16 32) (k0_hw62 : k0_chk62 v387), ∀ a x, ((![v387] : Fin 1 → IVec S16 32) a x).toNat < S42016.size a := fun v387 k0_hw62 => k0_hw62

def k0_chk63 (v393 : IVec S16 32) : Prop :=
  (∀ a x, ((![v393] : Fin 1 → IVec S16 32) a x).toNat < S42016.size a)
theorem k0_idx63_inb : ∀ (v393 : IVec S16 32) (k0_hw63 : k0_chk63 v393), ∀ a x, ((![v393] : Fin 1 → IVec S16 32) a x).toNat < S42016.size a := fun v393 k0_hw63 => k0_hw63

def k0_chk64 (v399 : IVec S16 32) : Prop :=
  (∀ a x, ((![v399] : Fin 1 → IVec S16 32) a x).toNat < S42016.size a)
theorem k0_idx64_inb : ∀ (v399 : IVec S16 32) (k0_hw64 : k0_chk64 v399), ∀ a x, ((![v399] : Fin 1 → IVec S16 32) a x).toNat < S42016.size a := fun v399 k0_hw64 => k0_hw64

def k0_chk65 (v405 : IVec S16 32) : Prop :=
  (∀ a x, ((![v405] : Fin 1 → IVec S16 32) a x).toNat < S42016.size a)
theorem k0_idx65_inb : ∀ (v405 : IVec S16 32) (k0_hw65 : k0_chk65 v405), ∀ a x, ((![v405] : Fin 1 → IVec S16 32) a x).toNat < S42016.size a := fun v405 k0_hw65 => k0_hw65

def k0_chk66 (v411 : IVec S16 32) : Prop :=
  (∀ a x, ((![v411] : Fin 1 → IVec S16 32) a x).toNat < S42016.size a)
theorem k0_idx66_inb : ∀ (v411 : IVec S16 32) (k0_hw66 : k0_chk66 v411), ∀ a x, ((![v411] : Fin 1 → IVec S16 32) a x).toNat < S42016.size a := fun v411 k0_hw66 => k0_hw66

def k0_chk67 (v417 : IVec S16 32) : Prop :=
  (∀ a x, ((![v417] : Fin 1 → IVec S16 32) a x).toNat < S42016.size a)
theorem k0_idx67_inb : ∀ (v417 : IVec S16 32) (k0_hw67 : k0_chk67 v417), ∀ a x, ((![v417] : Fin 1 → IVec S16 32) a x).toNat < S42016.size a := fun v417 k0_hw67 => k0_hw67

def k0_chk68 (v423 : IVec S16 32) : Prop :=
  (∀ a x, ((![v423] : Fin 1 → IVec S16 32) a x).toNat < S42016.size a)
theorem k0_idx68_inb : ∀ (v423 : IVec S16 32) (k0_hw68 : k0_chk68 v423), ∀ a x, ((![v423] : Fin 1 → IVec S16 32) a x).toNat < S42016.size a := fun v423 k0_hw68 => k0_hw68

def k0_chk69 (v429 : IVec S16 32) : Prop :=
  (∀ a x, ((![v429] : Fin 1 → IVec S16 32) a x).toNat < S42016.size a)
theorem k0_idx69_inb : ∀ (v429 : IVec S16 32) (k0_hw69 : k0_chk69 v429), ∀ a x, ((![v429] : Fin 1 → IVec S16 32) a x).toNat < S42016.size a := fun v429 k0_hw69 => k0_hw69

def k0_chk70 (v435 : IVec S16 32) : Prop :=
  (∀ a x, ((![v435] : Fin 1 → IVec S16 32) a x).toNat < S42016.size a)
theorem k0_idx70_inb : ∀ (v435 : IVec S16 32) (k0_hw70 : k0_chk70 v435), ∀ a x, ((![v435] : Fin 1 → IVec S16 32) a x).toNat < S42016.size a := fun v435 k0_hw70 => k0_hw70

def k0_chk71 (v441 : IVec S16 32) : Prop :=
  (∀ a x, ((![v441] : Fin 1 → IVec S16 32) a x).toNat < S42016.size a)
theorem k0_idx71_inb : ∀ (v441 : IVec S16 32) (k0_hw71 : k0_chk71 v441), ∀ a x, ((![v441] : Fin 1 → IVec S16 32) a x).toNat < S42016.size a := fun v441 k0_hw71 => k0_hw71

def k0_chk72 (v447 : IVec S16 32) : Prop :=
  (∀ a x, ((![v447] : Fin 1 → IVec S16 32) a x).toNat < S42016.size a)
theorem k0_idx72_inb : ∀ (v447 : IVec S16 32) (k0_hw72 : k0_chk72 v447), ∀ a x, ((![v447] : Fin 1 → IVec S16 32) a x).toNat < S42016.size a := fun v447 k0_hw72 => k0_hw72

def k0_chk73 (v453 : IVec S16 32) : Prop :=
  (∀ a x, ((![v453] : Fin 1 → IVec S16 32) a x).toNat < S42016.size a)
theorem k0_idx73_inb : ∀ (v453 : IVec S16 32) (k0_hw73 : k0_chk73 v453), ∀ a x, ((![v453] : Fin 1 → IVec S16 32) a x).toNat < S42016.size a := fun v453 k0_hw73 => k0_hw73

def k0_chk74 (v459 : IVec S16 32) : Prop :=
  (∀ a x, ((![v459] : Fin 1 → IVec S16 32) a x).toNat < S42016.size a)
theorem k0_idx74_inb : ∀ (v459 : IVec S16 32) (k0_hw74 : k0_chk74 v459), ∀ a x, ((![v459] : Fin 1 → IVec S16 32) a x).toNat < S42016.size a := fun v459 k0_hw74 => k0_hw74

def k0_chk75 (v465 : IVec S16 32) : Prop :=
  (∀ a x, ((![v465] : Fin 1 → IVec S16 32) a x).toNat < S42016.size a)
theorem k0_idx75_inb : ∀ (v465 : IVec S16 32) (k0_hw75 : k0_chk75 v465), ∀ a x, ((![v465] : Fin 1 → IVec S16 32) a x).toNat < S42016.size a := fun v465 k0_hw75 => k0_hw75

def k0_chk76 (v471 : IVec S16 32) : Prop :=
  (∀ a x, ((![v471] : Fin 1 → IVec S16 32) a x).toNat < S42016.size a)
theorem k0_idx76_inb : ∀ (v471 : IVec S16 32) (k0_hw76 : k0_chk76 v471), ∀ a x, ((![v471] : Fin 1 → IVec S16 32) a x).toNat < S42016.size a := fun v471 k0_hw76 => k0_hw76

def k0_chk77 (v477 : IVec S16 32) : Prop :=
  (∀ a x, ((![v477] : Fin 1 → IVec S16 32) a x).toNat < S42016.size a)
theorem k0_idx77_inb : ∀ (v477 : IVec S16 32) (k0_hw77 : k0_chk77 v477), ∀ a x, ((![v477] : Fin 1 → IVec S16 32) a x).toNat < S42016.size a := fun v477 k0_hw77 => k0_hw77

def k0_chk78 (v483 : IVec S16 32) : Prop :=
  (∀ a x, ((![v483] : Fin 1 → IVec S16 32) a x).toNat < S42016.size a)
theorem k0_idx78_inb : ∀ (v483 : IVec S16 32) (k0_hw78 : k0_chk78 v483), ∀ a x, ((![v483] : Fin 1 → IVec S16 32) a x).toNat < S42016.size a := fun v483 k0_hw78 => k0_hw78

def k0_chk79 (v489 : IVec S16 32) : Prop :=
  (∀ a x, ((![v489] : Fin 1 → IVec S16 32) a x).toNat < S42016.size a)
theorem k0_idx79_inb : ∀ (v489 : IVec S16 32) (k0_hw79 : k0_chk79 v489), ∀ a x, ((![v489] : Fin 1 → IVec S16 32) a x).toNat < S42016.size a := fun v489 k0_hw79 => k0_hw79

def k0_chk80 (v495 : IVec S16 32) : Prop :=
  (∀ a x, ((![v495] : Fin 1 → IVec S16 32) a x).toNat < S42016.size a)
theorem k0_idx80_inb : ∀ (v495 : IVec S16 32) (k0_hw80 : k0_chk80 v495), ∀ a x, ((![v495] : Fin 1 → IVec S16 32) a x).toNat < S42016.size a := fun v495 k0_hw80 => k0_hw80

def k0_chk81 (v501 : IVec S16 32) : Prop :=
  (∀ a x, ((![v501] : Fin 1 → IVec S16 32) a x).toNat < S42016.size a)
theorem k0_idx81_inb : ∀ (v501 : IVec S16 32) (k0_hw81 : k0_chk81 v501), ∀ a x, ((![v501] : Fin 1 → IVec S16 32) a x).toNat < S42016.size a := fun v501 k0_hw81 => k0_hw81

def k0_chk82 (v507 : IVec S16 32) : Prop :=
  (∀ a x, ((![v507] : Fin 1 → IVec S16 32) a x).toNat < S42016.size a)
theorem k0_idx82_inb : ∀ (v507 : IVec S16 32) (k0_hw82 : k0_chk82 v507), ∀ a x, ((![v507] : Fin 1 → IVec S16 32) a x).toNat < S42016.size a := fun v507 k0_hw82 => k0_hw82

def k0_chk83 (v513 : IVec S16 32) : Prop :=
  (∀ a x, ((![v513] : Fin 1 → IVec S16 32) a x).toNat < S42016.size a)
theorem k0_idx83_inb : ∀ (v513 : IVec S16 32) (k0_hw83 : k0_chk83 v513), ∀ a x, ((![v513] : Fin 1 → IVec S16 32) a x).toNat < S42016.size a := fun v513 k0_hw83 => k0_hw83

def k0_chk84 (v519 : IVec S16 32) : Prop :=
  (∀ a x, ((![v519] : Fin 1 → IVec S16 32) a x).toNat < S42016.size a)
theorem k0_idx84_inb : ∀ (v519 : IVec S16 32) (k0_hw84 : k0_chk84 v519), ∀ a x, ((![v519] : Fin 1 → IVec S16 32) a x).toNat < S42016.size a := fun v519 k0_hw84 => k0_hw84

def k0_chk85 (v525 : IVec S16 32) : Prop :=
  (∀ a x, ((![v525] : Fin 1 → IVec S16 32) a x).toNat < S42016.size a)
theorem k0_idx85_inb : ∀ (v525 : IVec S16 32) (k0_hw85 : k0_chk85 v525), ∀ a x, ((![v525] : Fin 1 → IVec S16 32) a x).toNat < S42016.size a := fun v525 k0_hw85 => k0_hw85

def k0_chk86 (v531 : IVec S16 32) : Prop :=
  (∀ a x, ((![v531] : Fin 1 → IVec S16 32) a x).toNat < S42016.size a)
theorem k0_idx86_inb : ∀ (v531 : IVec S16 32) (k0_hw86 : k0_chk86 v531), ∀ a x, ((![v531] : Fin 1 → IVec S16 32) a x).toNat < S42016.size a := fun v531 k0_hw86 => k0_hw86

def k0_chk87 (v537 : IVec S16 32) : Prop :=
  (∀ a x, ((![v537] : Fin 1 → IVec S16 32) a x).toNat < S42016.size a)
theorem k0_idx87_inb : ∀ (v537 : IVec S16 32) (k0_hw87 : k0_chk87 v537), ∀ a x, ((![v537] : Fin 1 → IVec S16 32) a x).toNat < S42016.size a := fun v537 k0_hw87 => k0_hw87

def k0_chk88 (v543 : IVec S16 32) : Prop :=
  (∀ a x, ((![v543] : Fin 1 → IVec S16 32) a x).toNat < S42016.size a)
theorem k0_idx88_inb : ∀ (v543 : IVec S16 32) (k0_hw88 : k0_chk88 v543), ∀ a x, ((![v543] : Fin 1 → IVec S16 32) a x).toNat < S42016.size a := fun v543 k0_hw88 => k0_hw88

def k0_chk89 (v549 : IVec S16 32) : Prop :=
  (∀ a x, ((![v549] : Fin 1 → IVec S16 32) a x).toNat < S42016.size a)
theorem k0_idx89_inb : ∀ (v549 : IVec S16 32) (k0_hw89 : k0_chk89 v549), ∀ a x, ((![v549] : Fin 1 → IVec S16 32) a x).toNat < S42016.size a := fun v549 k0_hw89 => k0_hw89

def k0_chk90 (v555 : IVec S16 32) : Prop :=
  (∀ a x, ((![v555] : Fin 1 → IVec S16 32) a x).toNat < S42016.size a)
theorem k0_idx90_inb : ∀ (v555 : IVec S16 32) (k0_hw90 : k0_chk90 v555), ∀ a x, ((![v555] : Fin 1 → IVec S16 32) a x).toNat < S42016.size a := fun v555 k0_hw90 => k0_hw90

def k0_chk91 (v561 : IVec S16 32) : Prop :=
  (∀ a x, ((![v561] : Fin 1 → IVec S16 32) a x).toNat < S42016.size a)
theorem k0_idx91_inb : ∀ (v561 : IVec S16 32) (k0_hw91 : k0_chk91 v561), ∀ a x, ((![v561] : Fin 1 → IVec S16 32) a x).toNat < S42016.size a := fun v561 k0_hw91 => k0_hw91

def k0_chk92 (v567 : IVec S16 32) : Prop :=
  (∀ a x, ((![v567] : Fin 1 → IVec S16 32) a x).toNat < S42016.size a)
theorem k0_idx92_inb : ∀ (v567 : IVec S16 32) (k0_hw92 : k0_chk92 v567), ∀ a x, ((![v567] : Fin 1 → IVec S16 32) a x).toNat < S42016.size a := fun v567 k0_hw92 => k0_hw92

def k0_chk93 (v573 : IVec S16 32) : Prop :=
  (∀ a x, ((![v573] : Fin 1 → IVec S16 32) a x).toNat < S42016.size a)
theorem k0_idx93_inb : ∀ (v573 : IVec S16 32) (k0_hw93 : k0_chk93 v573), ∀ a x, ((![v573] : Fin 1 → IVec S16 32) a x).toNat < S42016.size a := fun v573 k0_hw93 => k0_hw93

def k0_chk94 (v579 : IVec S16 32) : Prop :=
  (∀ a x, ((![v579] : Fin 1 → IVec S16 32) a x).toNat < S42016.size a)
theorem k0_idx94_inb : ∀ (v579 : IVec S16 32) (k0_hw94 : k0_chk94 v579), ∀ a x, ((![v579] : Fin 1 → IVec S16 32) a x).toNat < S42016.size a := fun v579 k0_hw94 => k0_hw94

def k0_chk95 (v585 : IVec S16 32) : Prop :=
  (∀ a x, ((![v585] : Fin 1 → IVec S16 32) a x).toNat < S42016.size a)
theorem k0_idx95_inb : ∀ (v585 : IVec S16 32) (k0_hw95 : k0_chk95 v585), ∀ a x, ((![v585] : Fin 1 → IVec S16 32) a x).toNat < S42016.size a := fun v585 k0_hw95 => k0_hw95

def k0_chk96 (v591 : IVec S16 32) : Prop :=
  (∀ a x, ((![v591] : Fin 1 → IVec S16 32) a x).toNat < S42016.size a)
theorem k0_idx96_inb : ∀ (v591 : IVec S16 32) (k0_hw96 : k0_chk96 v591), ∀ a x, ((![v591] : Fin 1 → IVec S16 32) a x).toNat < S42016.size a := fun v591 k0_hw96 => k0_hw96

def k0_chk97 (v597 : IVec S16 32) : Prop :=
  (∀ a x, ((![v597] : Fin 1 → IVec S16 32) a x).toNat < S42016.size a)
theorem k0_idx97_inb : ∀ (v597 : IVec S16 32) (k0_hw97 : k0_chk97 v597), ∀ a x, ((![v597] : Fin 1 → IVec S16 32) a x).toNat < S42016.size a := fun v597 k0_hw97 => k0_hw97

def k0_chk98 (v603 : IVec S16 32) : Prop :=
  (∀ a x, ((![v603] : Fin 1 → IVec S16 32) a x).toNat < S42016.size a)
theorem k0_idx98_inb : ∀ (v603 : IVec S16 32) (k0_hw98 : k0_chk98 v603), ∀ a x, ((![v603] : Fin 1 → IVec S16 32) a x).toNat < S42016.size a := fun v603 k0_hw98 => k0_hw98

def k0_chk99 (v609 : IVec S16 32) : Prop :=
  (∀ a x, ((![v609] : Fin 1 → IVec S16 32) a x).toNat < S42016.size a)
theorem k0_idx99_inb : ∀ (v609 : IVec S16 32) (k0_hw99 : k0_chk99 v609), ∀ a x, ((![v609] : Fin 1 → IVec S16 32) a x).toNat < S42016.size a := fun v609 k0_hw99 => k0_hw99

def k0_chk100 (v615 : IVec S16 32) : Prop :=
  (∀ a x, ((![v615] : Fin 1 → IVec S16 32) a x).toNat < S42016.size a)
theorem k0_idx100_inb : ∀ (v615 : IVec S16 32) (k0_hw100 : k0_chk100 v615), ∀ a x, ((![v615] : Fin 1 → IVec S16 32) a x).toNat < S42016.size a := fun v615 k0_hw100 => k0_hw100

def k0_chk101 (v621 : IVec S16 32) : Prop :=
  (∀ a x, ((![v621] : Fin 1 → IVec S16 32) a x).toNat < S42016.size a)
theorem k0_idx101_inb : ∀ (v621 : IVec S16 32) (k0_hw101 : k0_chk101 v621), ∀ a x, ((![v621] : Fin 1 → IVec S16 32) a x).toNat < S42016.size a := fun v621 k0_hw101 => k0_hw101

def k0_chk102 (v627 : IVec S16 32) : Prop :=
  (∀ a x, ((![v627] : Fin 1 → IVec S16 32) a x).toNat < S42016.size a)
theorem k0_idx102_inb : ∀ (v627 : IVec S16 32) (k0_hw102 : k0_chk102 v627), ∀ a x, ((![v627] : Fin 1 → IVec S16 32) a x).toNat < S42016.size a := fun v627 k0_hw102 => k0_hw102

def k0_chk103 (v633 : IVec S16 32) : Prop :=
  (∀ a x, ((![v633] : Fin 1 → IVec S16 32) a x).toNat < S42016.size a)
theorem k0_idx103_inb : ∀ (v633 : IVec S16 32) (k0_hw103 : k0_chk103 v633), ∀ a x, ((![v633] : Fin 1 → IVec S16 32) a x).toNat < S42016.size a := fun v633 k0_hw103 => k0_hw103

def k0_chk104 (v639 : IVec S16 32) : Prop :=
  (∀ a x, ((![v639] : Fin 1 → IVec S16 32) a x).toNat < S42016.size a)
theorem k0_idx104_inb : ∀ (v639 : IVec S16 32) (k0_hw104 : k0_chk104 v639), ∀ a x, ((![v639] : Fin 1 → IVec S16 32) a x).toNat < S42016.size a := fun v639 k0_hw104 => k0_hw104

def k0_chk105 (v645 : IVec S16 32) : Prop :=
  (∀ a x, ((![v645] : Fin 1 → IVec S16 32) a x).toNat < S42016.size a)
theorem k0_idx105_inb : ∀ (v645 : IVec S16 32) (k0_hw105 : k0_chk105 v645), ∀ a x, ((![v645] : Fin 1 → IVec S16 32) a x).toNat < S42016.size a := fun v645 k0_hw105 => k0_hw105

def k0_chk106 (v651 : IVec S16 32) : Prop :=
  (∀ a x, ((![v651] : Fin 1 → IVec S16 32) a x).toNat < S42016.size a)
theorem k0_idx106_inb : ∀ (v651 : IVec S16 32) (k0_hw106 : k0_chk106 v651), ∀ a x, ((![v651] : Fin 1 → IVec S16 32) a x).toNat < S42016.size a := fun v651 k0_hw106 => k0_hw106

def k0_chk107 (v657 : IVec S16 32) : Prop :=
  (∀ a x, ((![v657] : Fin 1 → IVec S16 32) a x).toNat < S42016.size a)
theorem k0_idx107_inb : ∀ (v657 : IVec S16 32) (k0_hw107 : k0_chk107 v657), ∀ a x, ((![v657] : Fin 1 → IVec S16 32) a x).toNat < S42016.size a := fun v657 k0_hw107 => k0_hw107

def k0_chk108 (v663 : IVec S16 32) : Prop :=
  (∀ a x, ((![v663] : Fin 1 → IVec S16 32) a x).toNat < S42016.size a)
theorem k0_idx108_inb : ∀ (v663 : IVec S16 32) (k0_hw108 : k0_chk108 v663), ∀ a x, ((![v663] : Fin 1 → IVec S16 32) a x).toNat < S42016.size a := fun v663 k0_hw108 => k0_hw108

def k0_chk109 (v669 : IVec S16 32) : Prop :=
  (∀ a x, ((![v669] : Fin 1 → IVec S16 32) a x).toNat < S42016.size a)
theorem k0_idx109_inb : ∀ (v669 : IVec S16 32) (k0_hw109 : k0_chk109 v669), ∀ a x, ((![v669] : Fin 1 → IVec S16 32) a x).toNat < S42016.size a := fun v669 k0_hw109 => k0_hw109

def k0_chk110 (v675 : IVec S16 32) : Prop :=
  (∀ a x, ((![v675] : Fin 1 → IVec S16 32) a x).toNat < S42016.size a)
theorem k0_idx110_inb : ∀ (v675 : IVec S16 32) (k0_hw110 : k0_chk110 v675), ∀ a x, ((![v675] : Fin 1 → IVec S16 32) a x).toNat < S42016.size a := fun v675 k0_hw110 => k0_hw110

def k0_chk111 (v681 : IVec S16 32) : Prop :=
  (∀ a x, ((![v681] : Fin 1 → IVec S16 32) a x).toNat < S42016.size a)
theorem k0_idx111_inb : ∀ (v681 : IVec S16 32) (k0_hw111 : k0_chk111 v681), ∀ a x, ((![v681] : Fin 1 → IVec S16 32) a x).toNat < S42016.size a := fun v681 k0_hw111 => k0_hw111

def k0_chk112 (v687 : IVec S16 32) : Prop :=
  (∀ a x, ((![v687] : Fin 1 → IVec S16 32) a x).toNat < S42016.size a)
theorem k0_idx112_inb : ∀ (v687 : IVec S16 32) (k0_hw112 : k0_chk112 v687), ∀ a x, ((![v687] : Fin 1 → IVec S16 32) a x).toNat < S42016.size a := fun v687 k0_hw112 => k0_hw112

def k0_chk113 (v693 : IVec S16 32) : Prop :=
  (∀ a x, ((![v693] : Fin 1 → IVec S16 32) a x).toNat < S42016.size a)
theorem k0_idx113_inb : ∀ (v693 : IVec S16 32) (k0_hw113 : k0_chk113 v693), ∀ a x, ((![v693] : Fin 1 → IVec S16 32) a x).toNat < S42016.size a := fun v693 k0_hw113 => k0_hw113

def k0_chk114 (v699 : IVec S16 32) : Prop :=
  (∀ a x, ((![v699] : Fin 1 → IVec S16 32) a x).toNat < S42016.size a)
theorem k0_idx114_inb : ∀ (v699 : IVec S16 32) (k0_hw114 : k0_chk114 v699), ∀ a x, ((![v699] : Fin 1 → IVec S16 32) a x).toNat < S42016.size a := fun v699 k0_hw114 => k0_hw114

def k0_chk115 (v705 : IVec S16 32) : Prop :=
  (∀ a x, ((![v705] : Fin 1 → IVec S16 32) a x).toNat < S42016.size a)
theorem k0_idx115_inb : ∀ (v705 : IVec S16 32) (k0_hw115 : k0_chk115 v705), ∀ a x, ((![v705] : Fin 1 → IVec S16 32) a x).toNat < S42016.size a := fun v705 k0_hw115 => k0_hw115

def k0_chk116 (v711 : IVec S16 32) : Prop :=
  (∀ a x, ((![v711] : Fin 1 → IVec S16 32) a x).toNat < S42016.size a)
theorem k0_idx116_inb : ∀ (v711 : IVec S16 32) (k0_hw116 : k0_chk116 v711), ∀ a x, ((![v711] : Fin 1 → IVec S16 32) a x).toNat < S42016.size a := fun v711 k0_hw116 => k0_hw116

def k0_chk117 (v717 : IVec S16 32) : Prop :=
  (∀ a x, ((![v717] : Fin 1 → IVec S16 32) a x).toNat < S42016.size a)
theorem k0_idx117_inb : ∀ (v717 : IVec S16 32) (k0_hw117 : k0_chk117 v717), ∀ a x, ((![v717] : Fin 1 → IVec S16 32) a x).toNat < S42016.size a := fun v717 k0_hw117 => k0_hw117

def k0_chk118 (v723 : IVec S16 32) : Prop :=
  (∀ a x, ((![v723] : Fin 1 → IVec S16 32) a x).toNat < S42016.size a)
theorem k0_idx118_inb : ∀ (v723 : IVec S16 32) (k0_hw118 : k0_chk118 v723), ∀ a x, ((![v723] : Fin 1 → IVec S16 32) a x).toNat < S42016.size a := fun v723 k0_hw118 => k0_hw118

def k0_chk119 (v729 : IVec S16 32) : Prop :=
  (∀ a x, ((![v729] : Fin 1 → IVec S16 32) a x).toNat < S42016.size a)
theorem k0_idx119_inb : ∀ (v729 : IVec S16 32) (k0_hw119 : k0_chk119 v729), ∀ a x, ((![v729] : Fin 1 → IVec S16 32) a x).toNat < S42016.size a := fun v729 k0_hw119 => k0_hw119

def k0_chk120 (v735 : IVec S16 32) : Prop :=
  (∀ a x, ((![v735] : Fin 1 → IVec S16 32) a x).toNat < S42016.size a)
theorem k0_idx120_inb : ∀ (v735 : IVec S16 32) (k0_hw120 : k0_chk120 v735), ∀ a x, ((![v735] : Fin 1 → IVec S16 32) a x).toNat < S42016.size a := fun v735 k0_hw120 => k0_hw120

def k0_chk121 (v741 : IVec S16 32) : Prop :=
  (∀ a x, ((![v741] : Fin 1 → IVec S16 32) a x).toNat < S42016.size a)
theorem k0_idx121_inb : ∀ (v741 : IVec S16 32) (k0_hw121 : k0_chk121 v741), ∀ a x, ((![v741] : Fin 1 → IVec S16 32) a x).toNat < S42016.size a := fun v741 k0_hw121 => k0_hw121

def k0_chk122 (v747 : IVec S16 32) : Prop :=
  (∀ a x, ((![v747] : Fin 1 → IVec S16 32) a x).toNat < S42016.size a)
theorem k0_idx122_inb : ∀ (v747 : IVec S16 32) (k0_hw122 : k0_chk122 v747), ∀ a x, ((![v747] : Fin 1 → IVec S16 32) a x).toNat < S42016.size a := fun v747 k0_hw122 => k0_hw122

def k0_chk123 (v753 : IVec S16 32) : Prop :=
  (∀ a x, ((![v753] : Fin 1 → IVec S16 32) a x).toNat < S42016.size a)
theorem k0_idx123_inb : ∀ (v753 : IVec S16 32) (k0_hw123 : k0_chk123 v753), ∀ a x, ((![v753] : Fin 1 → IVec S16 32) a x).toNat < S42016.size a := fun v753 k0_hw123 => k0_hw123

def k0_chk124 (v759 : IVec S16 32) : Prop :=
  (∀ a x, ((![v759] : Fin 1 → IVec S16 32) a x).toNat < S42016.size a)
theorem k0_idx124_inb : ∀ (v759 : IVec S16 32) (k0_hw124 : k0_chk124 v759), ∀ a x, ((![v759] : Fin 1 → IVec S16 32) a x).toNat < S42016.size a := fun v759 k0_hw124 => k0_hw124

def k0_chk125 (v765 : IVec S16 32) : Prop :=
  (∀ a x, ((![v765] : Fin 1 → IVec S16 32) a x).toNat < S42016.size a)
theorem k0_idx125_inb : ∀ (v765 : IVec S16 32) (k0_hw125 : k0_chk125 v765), ∀ a x, ((![v765] : Fin 1 → IVec S16 32) a x).toNat < S42016.size a := fun v765 k0_hw125 => k0_hw125

def k0_chk126 (v771 : IVec S16 32) : Prop :=
  (∀ a x, ((![v771] : Fin 1 → IVec S16 32) a x).toNat < S42016.size a)
theorem k0_idx126_inb : ∀ (v771 : IVec S16 32) (k0_hw126 : k0_chk126 v771), ∀ a x, ((![v771] : Fin 1 → IVec S16 32) a x).toNat < S42016.size a := fun v771 k0_hw126 => k0_hw126

def k0_chk127 (v809 : IVec S16 32) : Prop :=
  (∀ a x, ((![v809] : Fin 1 → IVec S16 32) a x).toNat < S19968.size a)
theorem k0_idx127_inb : ∀ (v809 : IVec S16 32) (k0_hw127 : k0_chk127 v809), ∀ a x, ((![v809] : Fin 1 → IVec S16 32) a x).toNat < S19968.size a := fun v809 k0_hw127 => k0_hw127
def k0_cond1 (k0_t1 : Fin k0_t1_loop.trips) : BitVec 1 :=
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c2_i32_27 : BitVec 32 := 2#32
  let v99 : BitVec 32 := Scalar.addi v20 c2_i32_27
  let c32_i32 : BitVec 32 := 32#32
  let v100 : BitVec 1 := Scalar.cmpi .slt v99 c32_i32
  let v101 : BitVec 32 := Scalar.extui v100
  let c0_i32_28 : BitVec 32 := 0#32
  let v102 : BitVec 1 := Scalar.cmpi .ne v101 c0_i32_28
  v102

def k0_mult4 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c2_i32_71 : BitVec 32 := 2#32
  let v187 : BitVec 32 := Scalar.addi v20 c2_i32_71
  let c16_i32_72 : BitVec 32 := 16#32
  let v188 : BitVec 32 := Scalar.muli v187 c16_i32_72
  let v189 : BitVec 32 := Scalar.addi v2 v188
  let c2626_i32_73 : BitVec 32 := 2626#32
  let v190 : BitVec 32 := Scalar.muli v189 c2626_i32_73
  v190
def k0_off3 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c2_i32_71 : BitVec 32 := 2#32
  let v187 : BitVec 32 := Scalar.addi v20 c2_i32_71
  let c16_i32_72 : BitVec 32 := 16#32
  let v188 : BitVec 32 := Scalar.muli v187 c16_i32_72
  let v189 : BitVec 32 := Scalar.addi v2 v188
  let c2626_i32_73 : BitVec 32 := 2626#32
  let v190 : BitVec 32 := Scalar.muli v189 c2626_i32_73
  let v191 : BitVec 32 := v190
  ![v191.toNat]
def k0_mult5 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c1_i32_29 : BitVec 32 := 1#32
  let v103 : BitVec 32 := Scalar.addi v20 c1_i32_29
  let c16_i32_30 : BitVec 32 := 16#32
  let v104 : BitVec 32 := Scalar.muli v103 c16_i32_30
  let v105 : BitVec 32 := Scalar.addi v2 v104
  let c2626_i32_31 : BitVec 32 := 2626#32
  let v106 : BitVec 32 := Scalar.muli v105 c2626_i32_31
  v106
def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c1_i32_29 : BitVec 32 := 1#32
  let v103 : BitVec 32 := Scalar.addi v20 c1_i32_29
  let c16_i32_30 : BitVec 32 := 16#32
  let v104 : BitVec 32 := Scalar.muli v103 c16_i32_30
  let v105 : BitVec 32 := Scalar.addi v2 v104
  let c2626_i32_31 : BitVec 32 := 2626#32
  let v106 : BitVec 32 := Scalar.muli v105 c2626_i32_31
  let v107 : BitVec 32 := v106
  ![v107.toNat]

def k0_chk128 (v118 : IVec S16 32) : Prop :=
  (∀ a x, ((![v118] : Fin 1 → IVec S16 32) a x).toNat < S42016.size a)
theorem k0_idx128_inb : ∀ (v118 : IVec S16 32) (k0_hw128 : k0_chk128 v118), ∀ a x, ((![v118] : Fin 1 → IVec S16 32) a x).toNat < S42016.size a := fun v118 k0_hw128 => k0_hw128

def k0_chk129 (v121 : IVec S16 32) : Prop :=
  (∀ a x, ((![v121] : Fin 1 → IVec S16 32) a x).toNat < S19968.size a)
theorem k0_idx129_inb : ∀ (v121 : IVec S16 32) (k0_hw129 : k0_chk129 v121), ∀ a x, ((![v121] : Fin 1 → IVec S16 32) a x).toNat < S19968.size a := fun v121 k0_hw129 => k0_hw129

def k0_chk130 (v123 : IVec S16 32) : Prop :=
  (∀ a x, ((![v123] : Fin 1 → IVec S16 32) a x).toNat < S42016.size a)
theorem k0_idx130_inb : ∀ (v123 : IVec S16 32) (k0_hw130 : k0_chk130 v123), ∀ a x, ((![v123] : Fin 1 → IVec S16 32) a x).toNat < S42016.size a := fun v123 k0_hw130 => k0_hw130

def k0_chk131 (v126 : IVec S16 32) : Prop :=
  (∀ a x, ((![v126] : Fin 1 → IVec S16 32) a x).toNat < S19968.size a)
theorem k0_idx131_inb : ∀ (v126 : IVec S16 32) (k0_hw131 : k0_chk131 v126), ∀ a x, ((![v126] : Fin 1 → IVec S16 32) a x).toNat < S19968.size a := fun v126 k0_hw131 => k0_hw131

def k0_chk132 (v128 : IVec S16 32) : Prop :=
  (∀ a x, ((![v128] : Fin 1 → IVec S16 32) a x).toNat < S42016.size a)
theorem k0_idx132_inb : ∀ (v128 : IVec S16 32) (k0_hw132 : k0_chk132 v128), ∀ a x, ((![v128] : Fin 1 → IVec S16 32) a x).toNat < S42016.size a := fun v128 k0_hw132 => k0_hw132

def k0_chk133 (v131 : IVec S16 32) : Prop :=
  (∀ a x, ((![v131] : Fin 1 → IVec S16 32) a x).toNat < S19968.size a)
theorem k0_idx133_inb : ∀ (v131 : IVec S16 32) (k0_hw133 : k0_chk133 v131), ∀ a x, ((![v131] : Fin 1 → IVec S16 32) a x).toNat < S19968.size a := fun v131 k0_hw133 => k0_hw133

def k0_chk134 (v133 : IVec S16 32) : Prop :=
  (∀ a x, ((![v133] : Fin 1 → IVec S16 32) a x).toNat < S42016.size a)
theorem k0_idx134_inb : ∀ (v133 : IVec S16 32) (k0_hw134 : k0_chk134 v133), ∀ a x, ((![v133] : Fin 1 → IVec S16 32) a x).toNat < S42016.size a := fun v133 k0_hw134 => k0_hw134

def k0_chk135 (v136 : IVec S16 32) : Prop :=
  (∀ a x, ((![v136] : Fin 1 → IVec S16 32) a x).toNat < S19968.size a)
theorem k0_idx135_inb : ∀ (v136 : IVec S16 32) (k0_hw135 : k0_chk135 v136), ∀ a x, ((![v136] : Fin 1 → IVec S16 32) a x).toNat < S19968.size a := fun v136 k0_hw135 => k0_hw135

def k0_chk136 (v138 : IVec S16 32) : Prop :=
  (∀ a x, ((![v138] : Fin 1 → IVec S16 32) a x).toNat < S42016.size a)
theorem k0_idx136_inb : ∀ (v138 : IVec S16 32) (k0_hw136 : k0_chk136 v138), ∀ a x, ((![v138] : Fin 1 → IVec S16 32) a x).toNat < S42016.size a := fun v138 k0_hw136 => k0_hw136

def k0_chk137 (v141 : IVec S16 32) : Prop :=
  (∀ a x, ((![v141] : Fin 1 → IVec S16 32) a x).toNat < S19968.size a)
theorem k0_idx137_inb : ∀ (v141 : IVec S16 32) (k0_hw137 : k0_chk137 v141), ∀ a x, ((![v141] : Fin 1 → IVec S16 32) a x).toNat < S19968.size a := fun v141 k0_hw137 => k0_hw137

def k0_chk138 (v143 : IVec S16 32) : Prop :=
  (∀ a x, ((![v143] : Fin 1 → IVec S16 32) a x).toNat < S42016.size a)
theorem k0_idx138_inb : ∀ (v143 : IVec S16 32) (k0_hw138 : k0_chk138 v143), ∀ a x, ((![v143] : Fin 1 → IVec S16 32) a x).toNat < S42016.size a := fun v143 k0_hw138 => k0_hw138

def k0_chk139 (v146 : IVec S16 32) : Prop :=
  (∀ a x, ((![v146] : Fin 1 → IVec S16 32) a x).toNat < S19968.size a)
theorem k0_idx139_inb : ∀ (v146 : IVec S16 32) (k0_hw139 : k0_chk139 v146), ∀ a x, ((![v146] : Fin 1 → IVec S16 32) a x).toNat < S19968.size a := fun v146 k0_hw139 => k0_hw139

def k0_chk140 (v148 : IVec S16 32) : Prop :=
  (∀ a x, ((![v148] : Fin 1 → IVec S16 32) a x).toNat < S42016.size a)
theorem k0_idx140_inb : ∀ (v148 : IVec S16 32) (k0_hw140 : k0_chk140 v148), ∀ a x, ((![v148] : Fin 1 → IVec S16 32) a x).toNat < S42016.size a := fun v148 k0_hw140 => k0_hw140

def k0_chk141 (v151 : IVec S16 32) : Prop :=
  (∀ a x, ((![v151] : Fin 1 → IVec S16 32) a x).toNat < S19968.size a)
theorem k0_idx141_inb : ∀ (v151 : IVec S16 32) (k0_hw141 : k0_chk141 v151), ∀ a x, ((![v151] : Fin 1 → IVec S16 32) a x).toNat < S19968.size a := fun v151 k0_hw141 => k0_hw141

def k0_chk142 (v153 : IVec S16 32) : Prop :=
  (∀ a x, ((![v153] : Fin 1 → IVec S16 32) a x).toNat < S42016.size a)
theorem k0_idx142_inb : ∀ (v153 : IVec S16 32) (k0_hw142 : k0_chk142 v153), ∀ a x, ((![v153] : Fin 1 → IVec S16 32) a x).toNat < S42016.size a := fun v153 k0_hw142 => k0_hw142

def k0_chk143 (v156 : IVec S16 32) : Prop :=
  (∀ a x, ((![v156] : Fin 1 → IVec S16 32) a x).toNat < S19968.size a)
theorem k0_idx143_inb : ∀ (v156 : IVec S16 32) (k0_hw143 : k0_chk143 v156), ∀ a x, ((![v156] : Fin 1 → IVec S16 32) a x).toNat < S19968.size a := fun v156 k0_hw143 => k0_hw143

def k0_chk144 (v158 : IVec S16 32) : Prop :=
  (∀ a x, ((![v158] : Fin 1 → IVec S16 32) a x).toNat < S42016.size a)
theorem k0_idx144_inb : ∀ (v158 : IVec S16 32) (k0_hw144 : k0_chk144 v158), ∀ a x, ((![v158] : Fin 1 → IVec S16 32) a x).toNat < S42016.size a := fun v158 k0_hw144 => k0_hw144

def k0_chk145 (v161 : IVec S16 32) : Prop :=
  (∀ a x, ((![v161] : Fin 1 → IVec S16 32) a x).toNat < S19968.size a)
theorem k0_idx145_inb : ∀ (v161 : IVec S16 32) (k0_hw145 : k0_chk145 v161), ∀ a x, ((![v161] : Fin 1 → IVec S16 32) a x).toNat < S19968.size a := fun v161 k0_hw145 => k0_hw145

def k0_chk146 (v163 : IVec S16 32) : Prop :=
  (∀ a x, ((![v163] : Fin 1 → IVec S16 32) a x).toNat < S42016.size a)
theorem k0_idx146_inb : ∀ (v163 : IVec S16 32) (k0_hw146 : k0_chk146 v163), ∀ a x, ((![v163] : Fin 1 → IVec S16 32) a x).toNat < S42016.size a := fun v163 k0_hw146 => k0_hw146

def k0_chk147 (v166 : IVec S16 32) : Prop :=
  (∀ a x, ((![v166] : Fin 1 → IVec S16 32) a x).toNat < S19968.size a)
theorem k0_idx147_inb : ∀ (v166 : IVec S16 32) (k0_hw147 : k0_chk147 v166), ∀ a x, ((![v166] : Fin 1 → IVec S16 32) a x).toNat < S19968.size a := fun v166 k0_hw147 => k0_hw147

def k0_chk148 (v168 : IVec S16 32) : Prop :=
  (∀ a x, ((![v168] : Fin 1 → IVec S16 32) a x).toNat < S42016.size a)
theorem k0_idx148_inb : ∀ (v168 : IVec S16 32) (k0_hw148 : k0_chk148 v168), ∀ a x, ((![v168] : Fin 1 → IVec S16 32) a x).toNat < S42016.size a := fun v168 k0_hw148 => k0_hw148

def k0_chk149 (v171 : IVec S16 32) : Prop :=
  (∀ a x, ((![v171] : Fin 1 → IVec S16 32) a x).toNat < S19968.size a)
theorem k0_idx149_inb : ∀ (v171 : IVec S16 32) (k0_hw149 : k0_chk149 v171), ∀ a x, ((![v171] : Fin 1 → IVec S16 32) a x).toNat < S19968.size a := fun v171 k0_hw149 => k0_hw149

def k0_chk150 (v173 : IVec S16 32) : Prop :=
  (∀ a x, ((![v173] : Fin 1 → IVec S16 32) a x).toNat < S42016.size a)
theorem k0_idx150_inb : ∀ (v173 : IVec S16 32) (k0_hw150 : k0_chk150 v173), ∀ a x, ((![v173] : Fin 1 → IVec S16 32) a x).toNat < S42016.size a := fun v173 k0_hw150 => k0_hw150

def k0_chk151 (v176 : IVec S16 32) : Prop :=
  (∀ a x, ((![v176] : Fin 1 → IVec S16 32) a x).toNat < S19968.size a)
theorem k0_idx151_inb : ∀ (v176 : IVec S16 32) (k0_hw151 : k0_chk151 v176), ∀ a x, ((![v176] : Fin 1 → IVec S16 32) a x).toNat < S19968.size a := fun v176 k0_hw151 => k0_hw151

def k0_chk152 (v178 : IVec S16 32) : Prop :=
  (∀ a x, ((![v178] : Fin 1 → IVec S16 32) a x).toNat < S42016.size a)
theorem k0_idx152_inb : ∀ (v178 : IVec S16 32) (k0_hw152 : k0_chk152 v178), ∀ a x, ((![v178] : Fin 1 → IVec S16 32) a x).toNat < S42016.size a := fun v178 k0_hw152 => k0_hw152

def k0_chk153 (v181 : IVec S16 32) : Prop :=
  (∀ a x, ((![v181] : Fin 1 → IVec S16 32) a x).toNat < S19968.size a)
theorem k0_idx153_inb : ∀ (v181 : IVec S16 32) (k0_hw153 : k0_chk153 v181), ∀ a x, ((![v181] : Fin 1 → IVec S16 32) a x).toNat < S19968.size a := fun v181 k0_hw153 => k0_hw153
@[reducible] def k0_t3_loop : Scf.Loop 32 :=
  let c0_i32_63 : BitVec 32 := 0#32
  let c26_i32_64 : BitVec 32 := 26#32
  let v182 : BitVec 32 := Scalar.addi c0_i32_63 c26_i32_64
  let c1_i32_65 : BitVec 32 := 1#32
  ⟨c0_i32_63, v182, c1_i32_65⟩

def k0_chk154 (v193 : IVec S16 32) : Prop :=
  (∀ a x, ((![v193] : Fin 1 → IVec S16 32) a x).toNat < S42016.size a)
theorem k0_idx154_inb : ∀ (v193 : IVec S16 32) (k0_hw154 : k0_chk154 v193), ∀ a x, ((![v193] : Fin 1 → IVec S16 32) a x).toNat < S42016.size a := fun v193 k0_hw154 => k0_hw154

def k0_chk155 (v195 : IVec S16 32) : Prop :=
  (∀ a x, ((![v195] : Fin 1 → IVec S16 32) a x).toNat < S42016.size a)
theorem k0_idx155_inb : ∀ (v195 : IVec S16 32) (k0_hw155 : k0_chk155 v195), ∀ a x, ((![v195] : Fin 1 → IVec S16 32) a x).toNat < S42016.size a := fun v195 k0_hw155 => k0_hw155

def k0_chk156 (v197 : IVec S16 32) : Prop :=
  (∀ a x, ((![v197] : Fin 1 → IVec S16 32) a x).toNat < S42016.size a)
theorem k0_idx156_inb : ∀ (v197 : IVec S16 32) (k0_hw156 : k0_chk156 v197), ∀ a x, ((![v197] : Fin 1 → IVec S16 32) a x).toNat < S42016.size a := fun v197 k0_hw156 => k0_hw156

def k0_chk157 (v199 : IVec S16 32) : Prop :=
  (∀ a x, ((![v199] : Fin 1 → IVec S16 32) a x).toNat < S42016.size a)
theorem k0_idx157_inb : ∀ (v199 : IVec S16 32) (k0_hw157 : k0_chk157 v199), ∀ a x, ((![v199] : Fin 1 → IVec S16 32) a x).toNat < S42016.size a := fun v199 k0_hw157 => k0_hw157

def k0_chk158 (v201 : IVec S16 32) : Prop :=
  (∀ a x, ((![v201] : Fin 1 → IVec S16 32) a x).toNat < S42016.size a)
theorem k0_idx158_inb : ∀ (v201 : IVec S16 32) (k0_hw158 : k0_chk158 v201), ∀ a x, ((![v201] : Fin 1 → IVec S16 32) a x).toNat < S42016.size a := fun v201 k0_hw158 => k0_hw158

def k0_chk159 (v207 : IVec S16 32) : Prop :=
  (∀ a x, ((![v207] : Fin 1 → IVec S16 32) a x).toNat < S42016.size a)
theorem k0_idx159_inb : ∀ (v207 : IVec S16 32) (k0_hw159 : k0_chk159 v207), ∀ a x, ((![v207] : Fin 1 → IVec S16 32) a x).toNat < S42016.size a := fun v207 k0_hw159 => k0_hw159

def k0_chk160 (v213 : IVec S16 32) : Prop :=
  (∀ a x, ((![v213] : Fin 1 → IVec S16 32) a x).toNat < S42016.size a)
theorem k0_idx160_inb : ∀ (v213 : IVec S16 32) (k0_hw160 : k0_chk160 v213), ∀ a x, ((![v213] : Fin 1 → IVec S16 32) a x).toNat < S42016.size a := fun v213 k0_hw160 => k0_hw160

def k0_chk161 (v219 : IVec S16 32) : Prop :=
  (∀ a x, ((![v219] : Fin 1 → IVec S16 32) a x).toNat < S42016.size a)
theorem k0_idx161_inb : ∀ (v219 : IVec S16 32) (k0_hw161 : k0_chk161 v219), ∀ a x, ((![v219] : Fin 1 → IVec S16 32) a x).toNat < S42016.size a := fun v219 k0_hw161 => k0_hw161

def k0_chk162 (v225 : IVec S16 32) : Prop :=
  (∀ a x, ((![v225] : Fin 1 → IVec S16 32) a x).toNat < S42016.size a)
theorem k0_idx162_inb : ∀ (v225 : IVec S16 32) (k0_hw162 : k0_chk162 v225), ∀ a x, ((![v225] : Fin 1 → IVec S16 32) a x).toNat < S42016.size a := fun v225 k0_hw162 => k0_hw162

def k0_chk163 (v231 : IVec S16 32) : Prop :=
  (∀ a x, ((![v231] : Fin 1 → IVec S16 32) a x).toNat < S42016.size a)
theorem k0_idx163_inb : ∀ (v231 : IVec S16 32) (k0_hw163 : k0_chk163 v231), ∀ a x, ((![v231] : Fin 1 → IVec S16 32) a x).toNat < S42016.size a := fun v231 k0_hw163 => k0_hw163

def k0_chk164 (v237 : IVec S16 32) : Prop :=
  (∀ a x, ((![v237] : Fin 1 → IVec S16 32) a x).toNat < S42016.size a)
theorem k0_idx164_inb : ∀ (v237 : IVec S16 32) (k0_hw164 : k0_chk164 v237), ∀ a x, ((![v237] : Fin 1 → IVec S16 32) a x).toNat < S42016.size a := fun v237 k0_hw164 => k0_hw164

def k0_chk165 (v243 : IVec S16 32) : Prop :=
  (∀ a x, ((![v243] : Fin 1 → IVec S16 32) a x).toNat < S42016.size a)
theorem k0_idx165_inb : ∀ (v243 : IVec S16 32) (k0_hw165 : k0_chk165 v243), ∀ a x, ((![v243] : Fin 1 → IVec S16 32) a x).toNat < S42016.size a := fun v243 k0_hw165 => k0_hw165

def k0_chk166 (v249 : IVec S16 32) : Prop :=
  (∀ a x, ((![v249] : Fin 1 → IVec S16 32) a x).toNat < S42016.size a)
theorem k0_idx166_inb : ∀ (v249 : IVec S16 32) (k0_hw166 : k0_chk166 v249), ∀ a x, ((![v249] : Fin 1 → IVec S16 32) a x).toNat < S42016.size a := fun v249 k0_hw166 => k0_hw166

def k0_chk167 (v255 : IVec S16 32) : Prop :=
  (∀ a x, ((![v255] : Fin 1 → IVec S16 32) a x).toNat < S42016.size a)
theorem k0_idx167_inb : ∀ (v255 : IVec S16 32) (k0_hw167 : k0_chk167 v255), ∀ a x, ((![v255] : Fin 1 → IVec S16 32) a x).toNat < S42016.size a := fun v255 k0_hw167 => k0_hw167

def k0_chk168 (v261 : IVec S16 32) : Prop :=
  (∀ a x, ((![v261] : Fin 1 → IVec S16 32) a x).toNat < S42016.size a)
theorem k0_idx168_inb : ∀ (v261 : IVec S16 32) (k0_hw168 : k0_chk168 v261), ∀ a x, ((![v261] : Fin 1 → IVec S16 32) a x).toNat < S42016.size a := fun v261 k0_hw168 => k0_hw168

def k0_chk169 (v267 : IVec S16 32) : Prop :=
  (∀ a x, ((![v267] : Fin 1 → IVec S16 32) a x).toNat < S42016.size a)
theorem k0_idx169_inb : ∀ (v267 : IVec S16 32) (k0_hw169 : k0_chk169 v267), ∀ a x, ((![v267] : Fin 1 → IVec S16 32) a x).toNat < S42016.size a := fun v267 k0_hw169 => k0_hw169

def k0_chk170 (v273 : IVec S16 32) : Prop :=
  (∀ a x, ((![v273] : Fin 1 → IVec S16 32) a x).toNat < S42016.size a)
theorem k0_idx170_inb : ∀ (v273 : IVec S16 32) (k0_hw170 : k0_chk170 v273), ∀ a x, ((![v273] : Fin 1 → IVec S16 32) a x).toNat < S42016.size a := fun v273 k0_hw170 => k0_hw170

def k0_chk171 (v279 : IVec S16 32) : Prop :=
  (∀ a x, ((![v279] : Fin 1 → IVec S16 32) a x).toNat < S42016.size a)
theorem k0_idx171_inb : ∀ (v279 : IVec S16 32) (k0_hw171 : k0_chk171 v279), ∀ a x, ((![v279] : Fin 1 → IVec S16 32) a x).toNat < S42016.size a := fun v279 k0_hw171 => k0_hw171

def k0_chk172 (v285 : IVec S16 32) : Prop :=
  (∀ a x, ((![v285] : Fin 1 → IVec S16 32) a x).toNat < S42016.size a)
theorem k0_idx172_inb : ∀ (v285 : IVec S16 32) (k0_hw172 : k0_chk172 v285), ∀ a x, ((![v285] : Fin 1 → IVec S16 32) a x).toNat < S42016.size a := fun v285 k0_hw172 => k0_hw172

def k0_chk173 (v291 : IVec S16 32) : Prop :=
  (∀ a x, ((![v291] : Fin 1 → IVec S16 32) a x).toNat < S42016.size a)
theorem k0_idx173_inb : ∀ (v291 : IVec S16 32) (k0_hw173 : k0_chk173 v291), ∀ a x, ((![v291] : Fin 1 → IVec S16 32) a x).toNat < S42016.size a := fun v291 k0_hw173 => k0_hw173

def k0_chk174 (v297 : IVec S16 32) : Prop :=
  (∀ a x, ((![v297] : Fin 1 → IVec S16 32) a x).toNat < S42016.size a)
theorem k0_idx174_inb : ∀ (v297 : IVec S16 32) (k0_hw174 : k0_chk174 v297), ∀ a x, ((![v297] : Fin 1 → IVec S16 32) a x).toNat < S42016.size a := fun v297 k0_hw174 => k0_hw174

def k0_chk175 (v303 : IVec S16 32) : Prop :=
  (∀ a x, ((![v303] : Fin 1 → IVec S16 32) a x).toNat < S42016.size a)
theorem k0_idx175_inb : ∀ (v303 : IVec S16 32) (k0_hw175 : k0_chk175 v303), ∀ a x, ((![v303] : Fin 1 → IVec S16 32) a x).toNat < S42016.size a := fun v303 k0_hw175 => k0_hw175

def k0_chk176 (v309 : IVec S16 32) : Prop :=
  (∀ a x, ((![v309] : Fin 1 → IVec S16 32) a x).toNat < S42016.size a)
theorem k0_idx176_inb : ∀ (v309 : IVec S16 32) (k0_hw176 : k0_chk176 v309), ∀ a x, ((![v309] : Fin 1 → IVec S16 32) a x).toNat < S42016.size a := fun v309 k0_hw176 => k0_hw176

def k0_chk177 (v315 : IVec S16 32) : Prop :=
  (∀ a x, ((![v315] : Fin 1 → IVec S16 32) a x).toNat < S42016.size a)
theorem k0_idx177_inb : ∀ (v315 : IVec S16 32) (k0_hw177 : k0_chk177 v315), ∀ a x, ((![v315] : Fin 1 → IVec S16 32) a x).toNat < S42016.size a := fun v315 k0_hw177 => k0_hw177

def k0_chk178 (v321 : IVec S16 32) : Prop :=
  (∀ a x, ((![v321] : Fin 1 → IVec S16 32) a x).toNat < S42016.size a)
theorem k0_idx178_inb : ∀ (v321 : IVec S16 32) (k0_hw178 : k0_chk178 v321), ∀ a x, ((![v321] : Fin 1 → IVec S16 32) a x).toNat < S42016.size a := fun v321 k0_hw178 => k0_hw178

def k0_chk179 (v327 : IVec S16 32) : Prop :=
  (∀ a x, ((![v327] : Fin 1 → IVec S16 32) a x).toNat < S42016.size a)
theorem k0_idx179_inb : ∀ (v327 : IVec S16 32) (k0_hw179 : k0_chk179 v327), ∀ a x, ((![v327] : Fin 1 → IVec S16 32) a x).toNat < S42016.size a := fun v327 k0_hw179 => k0_hw179

def k0_chk180 (v333 : IVec S16 32) : Prop :=
  (∀ a x, ((![v333] : Fin 1 → IVec S16 32) a x).toNat < S42016.size a)
theorem k0_idx180_inb : ∀ (v333 : IVec S16 32) (k0_hw180 : k0_chk180 v333), ∀ a x, ((![v333] : Fin 1 → IVec S16 32) a x).toNat < S42016.size a := fun v333 k0_hw180 => k0_hw180

def k0_chk181 (v339 : IVec S16 32) : Prop :=
  (∀ a x, ((![v339] : Fin 1 → IVec S16 32) a x).toNat < S42016.size a)
theorem k0_idx181_inb : ∀ (v339 : IVec S16 32) (k0_hw181 : k0_chk181 v339), ∀ a x, ((![v339] : Fin 1 → IVec S16 32) a x).toNat < S42016.size a := fun v339 k0_hw181 => k0_hw181

def k0_chk182 (v345 : IVec S16 32) : Prop :=
  (∀ a x, ((![v345] : Fin 1 → IVec S16 32) a x).toNat < S42016.size a)
theorem k0_idx182_inb : ∀ (v345 : IVec S16 32) (k0_hw182 : k0_chk182 v345), ∀ a x, ((![v345] : Fin 1 → IVec S16 32) a x).toNat < S42016.size a := fun v345 k0_hw182 => k0_hw182

def k0_chk183 (v351 : IVec S16 32) : Prop :=
  (∀ a x, ((![v351] : Fin 1 → IVec S16 32) a x).toNat < S42016.size a)
theorem k0_idx183_inb : ∀ (v351 : IVec S16 32) (k0_hw183 : k0_chk183 v351), ∀ a x, ((![v351] : Fin 1 → IVec S16 32) a x).toNat < S42016.size a := fun v351 k0_hw183 => k0_hw183

def k0_chk184 (v357 : IVec S16 32) : Prop :=
  (∀ a x, ((![v357] : Fin 1 → IVec S16 32) a x).toNat < S42016.size a)
theorem k0_idx184_inb : ∀ (v357 : IVec S16 32) (k0_hw184 : k0_chk184 v357), ∀ a x, ((![v357] : Fin 1 → IVec S16 32) a x).toNat < S42016.size a := fun v357 k0_hw184 => k0_hw184

def k0_chk185 (v363 : IVec S16 32) : Prop :=
  (∀ a x, ((![v363] : Fin 1 → IVec S16 32) a x).toNat < S42016.size a)
theorem k0_idx185_inb : ∀ (v363 : IVec S16 32) (k0_hw185 : k0_chk185 v363), ∀ a x, ((![v363] : Fin 1 → IVec S16 32) a x).toNat < S42016.size a := fun v363 k0_hw185 => k0_hw185

def k0_chk186 (v369 : IVec S16 32) : Prop :=
  (∀ a x, ((![v369] : Fin 1 → IVec S16 32) a x).toNat < S42016.size a)
theorem k0_idx186_inb : ∀ (v369 : IVec S16 32) (k0_hw186 : k0_chk186 v369), ∀ a x, ((![v369] : Fin 1 → IVec S16 32) a x).toNat < S42016.size a := fun v369 k0_hw186 => k0_hw186

def k0_chk187 (v375 : IVec S16 32) : Prop :=
  (∀ a x, ((![v375] : Fin 1 → IVec S16 32) a x).toNat < S42016.size a)
theorem k0_idx187_inb : ∀ (v375 : IVec S16 32) (k0_hw187 : k0_chk187 v375), ∀ a x, ((![v375] : Fin 1 → IVec S16 32) a x).toNat < S42016.size a := fun v375 k0_hw187 => k0_hw187

def k0_chk188 (v381 : IVec S16 32) : Prop :=
  (∀ a x, ((![v381] : Fin 1 → IVec S16 32) a x).toNat < S42016.size a)
theorem k0_idx188_inb : ∀ (v381 : IVec S16 32) (k0_hw188 : k0_chk188 v381), ∀ a x, ((![v381] : Fin 1 → IVec S16 32) a x).toNat < S42016.size a := fun v381 k0_hw188 => k0_hw188

def k0_chk189 (v387 : IVec S16 32) : Prop :=
  (∀ a x, ((![v387] : Fin 1 → IVec S16 32) a x).toNat < S42016.size a)
theorem k0_idx189_inb : ∀ (v387 : IVec S16 32) (k0_hw189 : k0_chk189 v387), ∀ a x, ((![v387] : Fin 1 → IVec S16 32) a x).toNat < S42016.size a := fun v387 k0_hw189 => k0_hw189

def k0_chk190 (v393 : IVec S16 32) : Prop :=
  (∀ a x, ((![v393] : Fin 1 → IVec S16 32) a x).toNat < S42016.size a)
theorem k0_idx190_inb : ∀ (v393 : IVec S16 32) (k0_hw190 : k0_chk190 v393), ∀ a x, ((![v393] : Fin 1 → IVec S16 32) a x).toNat < S42016.size a := fun v393 k0_hw190 => k0_hw190

def k0_chk191 (v399 : IVec S16 32) : Prop :=
  (∀ a x, ((![v399] : Fin 1 → IVec S16 32) a x).toNat < S42016.size a)
theorem k0_idx191_inb : ∀ (v399 : IVec S16 32) (k0_hw191 : k0_chk191 v399), ∀ a x, ((![v399] : Fin 1 → IVec S16 32) a x).toNat < S42016.size a := fun v399 k0_hw191 => k0_hw191

def k0_chk192 (v405 : IVec S16 32) : Prop :=
  (∀ a x, ((![v405] : Fin 1 → IVec S16 32) a x).toNat < S42016.size a)
theorem k0_idx192_inb : ∀ (v405 : IVec S16 32) (k0_hw192 : k0_chk192 v405), ∀ a x, ((![v405] : Fin 1 → IVec S16 32) a x).toNat < S42016.size a := fun v405 k0_hw192 => k0_hw192

def k0_chk193 (v411 : IVec S16 32) : Prop :=
  (∀ a x, ((![v411] : Fin 1 → IVec S16 32) a x).toNat < S42016.size a)
theorem k0_idx193_inb : ∀ (v411 : IVec S16 32) (k0_hw193 : k0_chk193 v411), ∀ a x, ((![v411] : Fin 1 → IVec S16 32) a x).toNat < S42016.size a := fun v411 k0_hw193 => k0_hw193

def k0_chk194 (v417 : IVec S16 32) : Prop :=
  (∀ a x, ((![v417] : Fin 1 → IVec S16 32) a x).toNat < S42016.size a)
theorem k0_idx194_inb : ∀ (v417 : IVec S16 32) (k0_hw194 : k0_chk194 v417), ∀ a x, ((![v417] : Fin 1 → IVec S16 32) a x).toNat < S42016.size a := fun v417 k0_hw194 => k0_hw194

def k0_chk195 (v423 : IVec S16 32) : Prop :=
  (∀ a x, ((![v423] : Fin 1 → IVec S16 32) a x).toNat < S42016.size a)
theorem k0_idx195_inb : ∀ (v423 : IVec S16 32) (k0_hw195 : k0_chk195 v423), ∀ a x, ((![v423] : Fin 1 → IVec S16 32) a x).toNat < S42016.size a := fun v423 k0_hw195 => k0_hw195

def k0_chk196 (v429 : IVec S16 32) : Prop :=
  (∀ a x, ((![v429] : Fin 1 → IVec S16 32) a x).toNat < S42016.size a)
theorem k0_idx196_inb : ∀ (v429 : IVec S16 32) (k0_hw196 : k0_chk196 v429), ∀ a x, ((![v429] : Fin 1 → IVec S16 32) a x).toNat < S42016.size a := fun v429 k0_hw196 => k0_hw196

def k0_chk197 (v435 : IVec S16 32) : Prop :=
  (∀ a x, ((![v435] : Fin 1 → IVec S16 32) a x).toNat < S42016.size a)
theorem k0_idx197_inb : ∀ (v435 : IVec S16 32) (k0_hw197 : k0_chk197 v435), ∀ a x, ((![v435] : Fin 1 → IVec S16 32) a x).toNat < S42016.size a := fun v435 k0_hw197 => k0_hw197

def k0_chk198 (v441 : IVec S16 32) : Prop :=
  (∀ a x, ((![v441] : Fin 1 → IVec S16 32) a x).toNat < S42016.size a)
theorem k0_idx198_inb : ∀ (v441 : IVec S16 32) (k0_hw198 : k0_chk198 v441), ∀ a x, ((![v441] : Fin 1 → IVec S16 32) a x).toNat < S42016.size a := fun v441 k0_hw198 => k0_hw198

def k0_chk199 (v447 : IVec S16 32) : Prop :=
  (∀ a x, ((![v447] : Fin 1 → IVec S16 32) a x).toNat < S42016.size a)
theorem k0_idx199_inb : ∀ (v447 : IVec S16 32) (k0_hw199 : k0_chk199 v447), ∀ a x, ((![v447] : Fin 1 → IVec S16 32) a x).toNat < S42016.size a := fun v447 k0_hw199 => k0_hw199

def k0_chk200 (v453 : IVec S16 32) : Prop :=
  (∀ a x, ((![v453] : Fin 1 → IVec S16 32) a x).toNat < S42016.size a)
theorem k0_idx200_inb : ∀ (v453 : IVec S16 32) (k0_hw200 : k0_chk200 v453), ∀ a x, ((![v453] : Fin 1 → IVec S16 32) a x).toNat < S42016.size a := fun v453 k0_hw200 => k0_hw200

def k0_chk201 (v459 : IVec S16 32) : Prop :=
  (∀ a x, ((![v459] : Fin 1 → IVec S16 32) a x).toNat < S42016.size a)
theorem k0_idx201_inb : ∀ (v459 : IVec S16 32) (k0_hw201 : k0_chk201 v459), ∀ a x, ((![v459] : Fin 1 → IVec S16 32) a x).toNat < S42016.size a := fun v459 k0_hw201 => k0_hw201

def k0_chk202 (v465 : IVec S16 32) : Prop :=
  (∀ a x, ((![v465] : Fin 1 → IVec S16 32) a x).toNat < S42016.size a)
theorem k0_idx202_inb : ∀ (v465 : IVec S16 32) (k0_hw202 : k0_chk202 v465), ∀ a x, ((![v465] : Fin 1 → IVec S16 32) a x).toNat < S42016.size a := fun v465 k0_hw202 => k0_hw202

def k0_chk203 (v471 : IVec S16 32) : Prop :=
  (∀ a x, ((![v471] : Fin 1 → IVec S16 32) a x).toNat < S42016.size a)
theorem k0_idx203_inb : ∀ (v471 : IVec S16 32) (k0_hw203 : k0_chk203 v471), ∀ a x, ((![v471] : Fin 1 → IVec S16 32) a x).toNat < S42016.size a := fun v471 k0_hw203 => k0_hw203

def k0_chk204 (v477 : IVec S16 32) : Prop :=
  (∀ a x, ((![v477] : Fin 1 → IVec S16 32) a x).toNat < S42016.size a)
theorem k0_idx204_inb : ∀ (v477 : IVec S16 32) (k0_hw204 : k0_chk204 v477), ∀ a x, ((![v477] : Fin 1 → IVec S16 32) a x).toNat < S42016.size a := fun v477 k0_hw204 => k0_hw204

def k0_chk205 (v483 : IVec S16 32) : Prop :=
  (∀ a x, ((![v483] : Fin 1 → IVec S16 32) a x).toNat < S42016.size a)
theorem k0_idx205_inb : ∀ (v483 : IVec S16 32) (k0_hw205 : k0_chk205 v483), ∀ a x, ((![v483] : Fin 1 → IVec S16 32) a x).toNat < S42016.size a := fun v483 k0_hw205 => k0_hw205

def k0_chk206 (v489 : IVec S16 32) : Prop :=
  (∀ a x, ((![v489] : Fin 1 → IVec S16 32) a x).toNat < S42016.size a)
theorem k0_idx206_inb : ∀ (v489 : IVec S16 32) (k0_hw206 : k0_chk206 v489), ∀ a x, ((![v489] : Fin 1 → IVec S16 32) a x).toNat < S42016.size a := fun v489 k0_hw206 => k0_hw206

def k0_chk207 (v495 : IVec S16 32) : Prop :=
  (∀ a x, ((![v495] : Fin 1 → IVec S16 32) a x).toNat < S42016.size a)
theorem k0_idx207_inb : ∀ (v495 : IVec S16 32) (k0_hw207 : k0_chk207 v495), ∀ a x, ((![v495] : Fin 1 → IVec S16 32) a x).toNat < S42016.size a := fun v495 k0_hw207 => k0_hw207

def k0_chk208 (v501 : IVec S16 32) : Prop :=
  (∀ a x, ((![v501] : Fin 1 → IVec S16 32) a x).toNat < S42016.size a)
theorem k0_idx208_inb : ∀ (v501 : IVec S16 32) (k0_hw208 : k0_chk208 v501), ∀ a x, ((![v501] : Fin 1 → IVec S16 32) a x).toNat < S42016.size a := fun v501 k0_hw208 => k0_hw208

def k0_chk209 (v507 : IVec S16 32) : Prop :=
  (∀ a x, ((![v507] : Fin 1 → IVec S16 32) a x).toNat < S42016.size a)
theorem k0_idx209_inb : ∀ (v507 : IVec S16 32) (k0_hw209 : k0_chk209 v507), ∀ a x, ((![v507] : Fin 1 → IVec S16 32) a x).toNat < S42016.size a := fun v507 k0_hw209 => k0_hw209

def k0_chk210 (v513 : IVec S16 32) : Prop :=
  (∀ a x, ((![v513] : Fin 1 → IVec S16 32) a x).toNat < S42016.size a)
theorem k0_idx210_inb : ∀ (v513 : IVec S16 32) (k0_hw210 : k0_chk210 v513), ∀ a x, ((![v513] : Fin 1 → IVec S16 32) a x).toNat < S42016.size a := fun v513 k0_hw210 => k0_hw210

def k0_chk211 (v519 : IVec S16 32) : Prop :=
  (∀ a x, ((![v519] : Fin 1 → IVec S16 32) a x).toNat < S42016.size a)
theorem k0_idx211_inb : ∀ (v519 : IVec S16 32) (k0_hw211 : k0_chk211 v519), ∀ a x, ((![v519] : Fin 1 → IVec S16 32) a x).toNat < S42016.size a := fun v519 k0_hw211 => k0_hw211

def k0_chk212 (v525 : IVec S16 32) : Prop :=
  (∀ a x, ((![v525] : Fin 1 → IVec S16 32) a x).toNat < S42016.size a)
theorem k0_idx212_inb : ∀ (v525 : IVec S16 32) (k0_hw212 : k0_chk212 v525), ∀ a x, ((![v525] : Fin 1 → IVec S16 32) a x).toNat < S42016.size a := fun v525 k0_hw212 => k0_hw212

def k0_chk213 (v531 : IVec S16 32) : Prop :=
  (∀ a x, ((![v531] : Fin 1 → IVec S16 32) a x).toNat < S42016.size a)
theorem k0_idx213_inb : ∀ (v531 : IVec S16 32) (k0_hw213 : k0_chk213 v531), ∀ a x, ((![v531] : Fin 1 → IVec S16 32) a x).toNat < S42016.size a := fun v531 k0_hw213 => k0_hw213

def k0_chk214 (v537 : IVec S16 32) : Prop :=
  (∀ a x, ((![v537] : Fin 1 → IVec S16 32) a x).toNat < S42016.size a)
theorem k0_idx214_inb : ∀ (v537 : IVec S16 32) (k0_hw214 : k0_chk214 v537), ∀ a x, ((![v537] : Fin 1 → IVec S16 32) a x).toNat < S42016.size a := fun v537 k0_hw214 => k0_hw214

def k0_chk215 (v543 : IVec S16 32) : Prop :=
  (∀ a x, ((![v543] : Fin 1 → IVec S16 32) a x).toNat < S42016.size a)
theorem k0_idx215_inb : ∀ (v543 : IVec S16 32) (k0_hw215 : k0_chk215 v543), ∀ a x, ((![v543] : Fin 1 → IVec S16 32) a x).toNat < S42016.size a := fun v543 k0_hw215 => k0_hw215

def k0_chk216 (v549 : IVec S16 32) : Prop :=
  (∀ a x, ((![v549] : Fin 1 → IVec S16 32) a x).toNat < S42016.size a)
theorem k0_idx216_inb : ∀ (v549 : IVec S16 32) (k0_hw216 : k0_chk216 v549), ∀ a x, ((![v549] : Fin 1 → IVec S16 32) a x).toNat < S42016.size a := fun v549 k0_hw216 => k0_hw216

def k0_chk217 (v555 : IVec S16 32) : Prop :=
  (∀ a x, ((![v555] : Fin 1 → IVec S16 32) a x).toNat < S42016.size a)
theorem k0_idx217_inb : ∀ (v555 : IVec S16 32) (k0_hw217 : k0_chk217 v555), ∀ a x, ((![v555] : Fin 1 → IVec S16 32) a x).toNat < S42016.size a := fun v555 k0_hw217 => k0_hw217

def k0_chk218 (v561 : IVec S16 32) : Prop :=
  (∀ a x, ((![v561] : Fin 1 → IVec S16 32) a x).toNat < S42016.size a)
theorem k0_idx218_inb : ∀ (v561 : IVec S16 32) (k0_hw218 : k0_chk218 v561), ∀ a x, ((![v561] : Fin 1 → IVec S16 32) a x).toNat < S42016.size a := fun v561 k0_hw218 => k0_hw218

def k0_chk219 (v567 : IVec S16 32) : Prop :=
  (∀ a x, ((![v567] : Fin 1 → IVec S16 32) a x).toNat < S42016.size a)
theorem k0_idx219_inb : ∀ (v567 : IVec S16 32) (k0_hw219 : k0_chk219 v567), ∀ a x, ((![v567] : Fin 1 → IVec S16 32) a x).toNat < S42016.size a := fun v567 k0_hw219 => k0_hw219

def k0_chk220 (v573 : IVec S16 32) : Prop :=
  (∀ a x, ((![v573] : Fin 1 → IVec S16 32) a x).toNat < S42016.size a)
theorem k0_idx220_inb : ∀ (v573 : IVec S16 32) (k0_hw220 : k0_chk220 v573), ∀ a x, ((![v573] : Fin 1 → IVec S16 32) a x).toNat < S42016.size a := fun v573 k0_hw220 => k0_hw220

def k0_chk221 (v579 : IVec S16 32) : Prop :=
  (∀ a x, ((![v579] : Fin 1 → IVec S16 32) a x).toNat < S42016.size a)
theorem k0_idx221_inb : ∀ (v579 : IVec S16 32) (k0_hw221 : k0_chk221 v579), ∀ a x, ((![v579] : Fin 1 → IVec S16 32) a x).toNat < S42016.size a := fun v579 k0_hw221 => k0_hw221

def k0_chk222 (v585 : IVec S16 32) : Prop :=
  (∀ a x, ((![v585] : Fin 1 → IVec S16 32) a x).toNat < S42016.size a)
theorem k0_idx222_inb : ∀ (v585 : IVec S16 32) (k0_hw222 : k0_chk222 v585), ∀ a x, ((![v585] : Fin 1 → IVec S16 32) a x).toNat < S42016.size a := fun v585 k0_hw222 => k0_hw222

def k0_chk223 (v591 : IVec S16 32) : Prop :=
  (∀ a x, ((![v591] : Fin 1 → IVec S16 32) a x).toNat < S42016.size a)
theorem k0_idx223_inb : ∀ (v591 : IVec S16 32) (k0_hw223 : k0_chk223 v591), ∀ a x, ((![v591] : Fin 1 → IVec S16 32) a x).toNat < S42016.size a := fun v591 k0_hw223 => k0_hw223

def k0_chk224 (v597 : IVec S16 32) : Prop :=
  (∀ a x, ((![v597] : Fin 1 → IVec S16 32) a x).toNat < S42016.size a)
theorem k0_idx224_inb : ∀ (v597 : IVec S16 32) (k0_hw224 : k0_chk224 v597), ∀ a x, ((![v597] : Fin 1 → IVec S16 32) a x).toNat < S42016.size a := fun v597 k0_hw224 => k0_hw224

def k0_chk225 (v603 : IVec S16 32) : Prop :=
  (∀ a x, ((![v603] : Fin 1 → IVec S16 32) a x).toNat < S42016.size a)
theorem k0_idx225_inb : ∀ (v603 : IVec S16 32) (k0_hw225 : k0_chk225 v603), ∀ a x, ((![v603] : Fin 1 → IVec S16 32) a x).toNat < S42016.size a := fun v603 k0_hw225 => k0_hw225

def k0_chk226 (v609 : IVec S16 32) : Prop :=
  (∀ a x, ((![v609] : Fin 1 → IVec S16 32) a x).toNat < S42016.size a)
theorem k0_idx226_inb : ∀ (v609 : IVec S16 32) (k0_hw226 : k0_chk226 v609), ∀ a x, ((![v609] : Fin 1 → IVec S16 32) a x).toNat < S42016.size a := fun v609 k0_hw226 => k0_hw226

def k0_chk227 (v615 : IVec S16 32) : Prop :=
  (∀ a x, ((![v615] : Fin 1 → IVec S16 32) a x).toNat < S42016.size a)
theorem k0_idx227_inb : ∀ (v615 : IVec S16 32) (k0_hw227 : k0_chk227 v615), ∀ a x, ((![v615] : Fin 1 → IVec S16 32) a x).toNat < S42016.size a := fun v615 k0_hw227 => k0_hw227

def k0_chk228 (v621 : IVec S16 32) : Prop :=
  (∀ a x, ((![v621] : Fin 1 → IVec S16 32) a x).toNat < S42016.size a)
theorem k0_idx228_inb : ∀ (v621 : IVec S16 32) (k0_hw228 : k0_chk228 v621), ∀ a x, ((![v621] : Fin 1 → IVec S16 32) a x).toNat < S42016.size a := fun v621 k0_hw228 => k0_hw228

def k0_chk229 (v627 : IVec S16 32) : Prop :=
  (∀ a x, ((![v627] : Fin 1 → IVec S16 32) a x).toNat < S42016.size a)
theorem k0_idx229_inb : ∀ (v627 : IVec S16 32) (k0_hw229 : k0_chk229 v627), ∀ a x, ((![v627] : Fin 1 → IVec S16 32) a x).toNat < S42016.size a := fun v627 k0_hw229 => k0_hw229

def k0_chk230 (v633 : IVec S16 32) : Prop :=
  (∀ a x, ((![v633] : Fin 1 → IVec S16 32) a x).toNat < S42016.size a)
theorem k0_idx230_inb : ∀ (v633 : IVec S16 32) (k0_hw230 : k0_chk230 v633), ∀ a x, ((![v633] : Fin 1 → IVec S16 32) a x).toNat < S42016.size a := fun v633 k0_hw230 => k0_hw230

def k0_chk231 (v639 : IVec S16 32) : Prop :=
  (∀ a x, ((![v639] : Fin 1 → IVec S16 32) a x).toNat < S42016.size a)
theorem k0_idx231_inb : ∀ (v639 : IVec S16 32) (k0_hw231 : k0_chk231 v639), ∀ a x, ((![v639] : Fin 1 → IVec S16 32) a x).toNat < S42016.size a := fun v639 k0_hw231 => k0_hw231

def k0_chk232 (v645 : IVec S16 32) : Prop :=
  (∀ a x, ((![v645] : Fin 1 → IVec S16 32) a x).toNat < S42016.size a)
theorem k0_idx232_inb : ∀ (v645 : IVec S16 32) (k0_hw232 : k0_chk232 v645), ∀ a x, ((![v645] : Fin 1 → IVec S16 32) a x).toNat < S42016.size a := fun v645 k0_hw232 => k0_hw232

def k0_chk233 (v651 : IVec S16 32) : Prop :=
  (∀ a x, ((![v651] : Fin 1 → IVec S16 32) a x).toNat < S42016.size a)
theorem k0_idx233_inb : ∀ (v651 : IVec S16 32) (k0_hw233 : k0_chk233 v651), ∀ a x, ((![v651] : Fin 1 → IVec S16 32) a x).toNat < S42016.size a := fun v651 k0_hw233 => k0_hw233

def k0_chk234 (v657 : IVec S16 32) : Prop :=
  (∀ a x, ((![v657] : Fin 1 → IVec S16 32) a x).toNat < S42016.size a)
theorem k0_idx234_inb : ∀ (v657 : IVec S16 32) (k0_hw234 : k0_chk234 v657), ∀ a x, ((![v657] : Fin 1 → IVec S16 32) a x).toNat < S42016.size a := fun v657 k0_hw234 => k0_hw234

def k0_chk235 (v663 : IVec S16 32) : Prop :=
  (∀ a x, ((![v663] : Fin 1 → IVec S16 32) a x).toNat < S42016.size a)
theorem k0_idx235_inb : ∀ (v663 : IVec S16 32) (k0_hw235 : k0_chk235 v663), ∀ a x, ((![v663] : Fin 1 → IVec S16 32) a x).toNat < S42016.size a := fun v663 k0_hw235 => k0_hw235

def k0_chk236 (v669 : IVec S16 32) : Prop :=
  (∀ a x, ((![v669] : Fin 1 → IVec S16 32) a x).toNat < S42016.size a)
theorem k0_idx236_inb : ∀ (v669 : IVec S16 32) (k0_hw236 : k0_chk236 v669), ∀ a x, ((![v669] : Fin 1 → IVec S16 32) a x).toNat < S42016.size a := fun v669 k0_hw236 => k0_hw236

def k0_chk237 (v675 : IVec S16 32) : Prop :=
  (∀ a x, ((![v675] : Fin 1 → IVec S16 32) a x).toNat < S42016.size a)
theorem k0_idx237_inb : ∀ (v675 : IVec S16 32) (k0_hw237 : k0_chk237 v675), ∀ a x, ((![v675] : Fin 1 → IVec S16 32) a x).toNat < S42016.size a := fun v675 k0_hw237 => k0_hw237

def k0_chk238 (v681 : IVec S16 32) : Prop :=
  (∀ a x, ((![v681] : Fin 1 → IVec S16 32) a x).toNat < S42016.size a)
theorem k0_idx238_inb : ∀ (v681 : IVec S16 32) (k0_hw238 : k0_chk238 v681), ∀ a x, ((![v681] : Fin 1 → IVec S16 32) a x).toNat < S42016.size a := fun v681 k0_hw238 => k0_hw238

def k0_chk239 (v687 : IVec S16 32) : Prop :=
  (∀ a x, ((![v687] : Fin 1 → IVec S16 32) a x).toNat < S42016.size a)
theorem k0_idx239_inb : ∀ (v687 : IVec S16 32) (k0_hw239 : k0_chk239 v687), ∀ a x, ((![v687] : Fin 1 → IVec S16 32) a x).toNat < S42016.size a := fun v687 k0_hw239 => k0_hw239

def k0_chk240 (v693 : IVec S16 32) : Prop :=
  (∀ a x, ((![v693] : Fin 1 → IVec S16 32) a x).toNat < S42016.size a)
theorem k0_idx240_inb : ∀ (v693 : IVec S16 32) (k0_hw240 : k0_chk240 v693), ∀ a x, ((![v693] : Fin 1 → IVec S16 32) a x).toNat < S42016.size a := fun v693 k0_hw240 => k0_hw240

def k0_chk241 (v699 : IVec S16 32) : Prop :=
  (∀ a x, ((![v699] : Fin 1 → IVec S16 32) a x).toNat < S42016.size a)
theorem k0_idx241_inb : ∀ (v699 : IVec S16 32) (k0_hw241 : k0_chk241 v699), ∀ a x, ((![v699] : Fin 1 → IVec S16 32) a x).toNat < S42016.size a := fun v699 k0_hw241 => k0_hw241

def k0_chk242 (v705 : IVec S16 32) : Prop :=
  (∀ a x, ((![v705] : Fin 1 → IVec S16 32) a x).toNat < S42016.size a)
theorem k0_idx242_inb : ∀ (v705 : IVec S16 32) (k0_hw242 : k0_chk242 v705), ∀ a x, ((![v705] : Fin 1 → IVec S16 32) a x).toNat < S42016.size a := fun v705 k0_hw242 => k0_hw242

def k0_chk243 (v711 : IVec S16 32) : Prop :=
  (∀ a x, ((![v711] : Fin 1 → IVec S16 32) a x).toNat < S42016.size a)
theorem k0_idx243_inb : ∀ (v711 : IVec S16 32) (k0_hw243 : k0_chk243 v711), ∀ a x, ((![v711] : Fin 1 → IVec S16 32) a x).toNat < S42016.size a := fun v711 k0_hw243 => k0_hw243

def k0_chk244 (v717 : IVec S16 32) : Prop :=
  (∀ a x, ((![v717] : Fin 1 → IVec S16 32) a x).toNat < S42016.size a)
theorem k0_idx244_inb : ∀ (v717 : IVec S16 32) (k0_hw244 : k0_chk244 v717), ∀ a x, ((![v717] : Fin 1 → IVec S16 32) a x).toNat < S42016.size a := fun v717 k0_hw244 => k0_hw244

def k0_chk245 (v723 : IVec S16 32) : Prop :=
  (∀ a x, ((![v723] : Fin 1 → IVec S16 32) a x).toNat < S42016.size a)
theorem k0_idx245_inb : ∀ (v723 : IVec S16 32) (k0_hw245 : k0_chk245 v723), ∀ a x, ((![v723] : Fin 1 → IVec S16 32) a x).toNat < S42016.size a := fun v723 k0_hw245 => k0_hw245

def k0_chk246 (v729 : IVec S16 32) : Prop :=
  (∀ a x, ((![v729] : Fin 1 → IVec S16 32) a x).toNat < S42016.size a)
theorem k0_idx246_inb : ∀ (v729 : IVec S16 32) (k0_hw246 : k0_chk246 v729), ∀ a x, ((![v729] : Fin 1 → IVec S16 32) a x).toNat < S42016.size a := fun v729 k0_hw246 => k0_hw246

def k0_chk247 (v735 : IVec S16 32) : Prop :=
  (∀ a x, ((![v735] : Fin 1 → IVec S16 32) a x).toNat < S42016.size a)
theorem k0_idx247_inb : ∀ (v735 : IVec S16 32) (k0_hw247 : k0_chk247 v735), ∀ a x, ((![v735] : Fin 1 → IVec S16 32) a x).toNat < S42016.size a := fun v735 k0_hw247 => k0_hw247

def k0_chk248 (v741 : IVec S16 32) : Prop :=
  (∀ a x, ((![v741] : Fin 1 → IVec S16 32) a x).toNat < S42016.size a)
theorem k0_idx248_inb : ∀ (v741 : IVec S16 32) (k0_hw248 : k0_chk248 v741), ∀ a x, ((![v741] : Fin 1 → IVec S16 32) a x).toNat < S42016.size a := fun v741 k0_hw248 => k0_hw248

def k0_chk249 (v747 : IVec S16 32) : Prop :=
  (∀ a x, ((![v747] : Fin 1 → IVec S16 32) a x).toNat < S42016.size a)
theorem k0_idx249_inb : ∀ (v747 : IVec S16 32) (k0_hw249 : k0_chk249 v747), ∀ a x, ((![v747] : Fin 1 → IVec S16 32) a x).toNat < S42016.size a := fun v747 k0_hw249 => k0_hw249

def k0_chk250 (v753 : IVec S16 32) : Prop :=
  (∀ a x, ((![v753] : Fin 1 → IVec S16 32) a x).toNat < S42016.size a)
theorem k0_idx250_inb : ∀ (v753 : IVec S16 32) (k0_hw250 : k0_chk250 v753), ∀ a x, ((![v753] : Fin 1 → IVec S16 32) a x).toNat < S42016.size a := fun v753 k0_hw250 => k0_hw250

def k0_chk251 (v759 : IVec S16 32) : Prop :=
  (∀ a x, ((![v759] : Fin 1 → IVec S16 32) a x).toNat < S42016.size a)
theorem k0_idx251_inb : ∀ (v759 : IVec S16 32) (k0_hw251 : k0_chk251 v759), ∀ a x, ((![v759] : Fin 1 → IVec S16 32) a x).toNat < S42016.size a := fun v759 k0_hw251 => k0_hw251

def k0_chk252 (v765 : IVec S16 32) : Prop :=
  (∀ a x, ((![v765] : Fin 1 → IVec S16 32) a x).toNat < S42016.size a)
theorem k0_idx252_inb : ∀ (v765 : IVec S16 32) (k0_hw252 : k0_chk252 v765), ∀ a x, ((![v765] : Fin 1 → IVec S16 32) a x).toNat < S42016.size a := fun v765 k0_hw252 => k0_hw252

def k0_chk253 (v771 : IVec S16 32) : Prop :=
  (∀ a x, ((![v771] : Fin 1 → IVec S16 32) a x).toNat < S42016.size a)
theorem k0_idx253_inb : ∀ (v771 : IVec S16 32) (k0_hw253 : k0_chk253 v771), ∀ a x, ((![v771] : Fin 1 → IVec S16 32) a x).toNat < S42016.size a := fun v771 k0_hw253 => k0_hw253

def k0_chk254 (v809 : IVec S16 32) : Prop :=
  (∀ a x, ((![v809] : Fin 1 → IVec S16 32) a x).toNat < S19968.size a)
theorem k0_idx254_inb : ∀ (v809 : IVec S16 32) (k0_hw254 : k0_chk254 v809), ∀ a x, ((![v809] : Fin 1 → IVec S16 32) a x).toNat < S19968.size a := fun v809 k0_hw254 => k0_hw254
def k0_cond2 (k0_t1 : Fin k0_t1_loop.trips) : BitVec 1 :=
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c3_i32_67 : BitVec 32 := 3#32
  let v183 : BitVec 32 := Scalar.addi v20 c3_i32_67
  let c32_i32_68 : BitVec 32 := 32#32
  let v184 : BitVec 1 := Scalar.cmpi .slt v183 c32_i32_68
  let v185 : BitVec 32 := Scalar.extui v184
  let c0_i32_69 : BitVec 32 := 0#32
  let v186 : BitVec 1 := Scalar.cmpi .ne v185 c0_i32_69
  v186

def k0_mult6 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c3_i32_71 : BitVec 32 := 3#32
  let v187 : BitVec 32 := Scalar.addi v20 c3_i32_71
  let c16_i32_72 : BitVec 32 := 16#32
  let v188 : BitVec 32 := Scalar.muli v187 c16_i32_72
  let v189 : BitVec 32 := Scalar.addi v2 v188
  let c2626_i32_73 : BitVec 32 := 2626#32
  let v190 : BitVec 32 := Scalar.muli v189 c2626_i32_73
  v190
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c2_i32_6 : BitVec 32 := 2#32
  let c0_i32_3 : BitVec 32 := 0#32
  let c1_i32 : BitVec 32 := 1#32
  let arg9 : BitVec 32 := Scf.iv c0_i32_3 c1_i32 k0_t1
  let v20 : BitVec 32 := Scalar.muli c2_i32_6 arg9
  let c3_i32_71 : BitVec 32 := 3#32
  let v187 : BitVec 32 := Scalar.addi v20 c3_i32_71
  let c16_i32_72 : BitVec 32 := 16#32
  let v188 : BitVec 32 := Scalar.muli v187 c16_i32_72
  let v189 : BitVec 32 := Scalar.addi v2 v188
  let c2626_i32_73 : BitVec 32 := 2626#32
  let v190 : BitVec 32 := Scalar.muli v189 c2626_i32_73
  let v191 : BitVec 32 := v190
  ![v191.toNat]
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c39_i32 : BitVec 32 := 39#32
  let v18 : BitVec 32 := Scalar.muli v2 c39_i32
  v18
def k0_off6 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c39_i32 : BitVec 32 := 39#32
  let v18 : BitVec 32 := Scalar.muli v2 c39_i32
  let v19 : BitVec 32 := v18
  ![v19.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x2626 : Shape := ⟨2, ![16384, 2626]⟩
abbrev S16384x13 : Shape := ⟨2, ![16384, 13]⟩
abbrev S16384x2600 : Shape := ⟨2, ![16384, 2600]⟩
abbrev S16384x26x100 : Shape := ⟨3, ![16384, 26, 100]⟩
abbrev S_ : Shape := ⟨0, ![]⟩
abbrev S16384x26 : Shape := ⟨2, ![16384, 26]⟩
abbrev S16384x26x1 : Shape := ⟨3, ![16384, 26, 1]⟩
abbrev S16384x39 : Shape := ⟨2, ![16384, 39]⟩

abbrev nBuf : Space → Nat
  | .hbm => 34
  | .vmem => 0
  | .smem => 0
  | _ => 0

abbrev bufTy : (tb : Table) → Fin (tcTables nBuf tb) → BufTy
  | .hbm, ⟨0, _⟩ => ⟨S16384x2626, .f32⟩
  | .hbm, ⟨1, _⟩ => ⟨S16384x13, .f32⟩
  | .hbm, ⟨2, _⟩ => ⟨S16384x2600, .f32⟩
  | .hbm, ⟨3, _⟩ => ⟨S16384x26x100, .f32⟩
  | .hbm, ⟨4, _⟩ => ⟨S_, .f32⟩
  | .hbm, ⟨5, _⟩ => ⟨S16384x26, .f32⟩
  | .hbm, ⟨6, _⟩ => ⟨S_, .f32⟩
  | .hbm, ⟨7, _⟩ => ⟨S16384x26, .f32⟩
  | .hbm, ⟨8, _⟩ => ⟨S16384x26, .f32⟩
  | .hbm, ⟨9, _⟩ => ⟨S16384x26x1, .f32⟩
  | .hbm, ⟨10, _⟩ => ⟨S16384x26x100, .f32⟩
  | .hbm, ⟨11, _⟩ => ⟨S16384x26x100, .f32⟩
  | .hbm, ⟨12, _⟩ => ⟨S16384x26x100, .f32⟩
  | .hbm, ⟨13, _⟩ => ⟨S_, .f32⟩
  | .hbm, ⟨14, _⟩ => ⟨S16384x26, .f32⟩
  | .hbm, ⟨15, _⟩ => ⟨S16384x26x1, .f32⟩
  | .hbm, ⟨16, _⟩ => ⟨S16384x26x100, .f32⟩
  | .hbm, ⟨17, _⟩ => ⟨S16384x26x100, .f32⟩
  | .hbm, ⟨18, _⟩ => ⟨S_, .f32⟩
  | .hbm, ⟨19, _⟩ => ⟨S_, .f32⟩
  | .hbm, ⟨20, _⟩ => ⟨S16384x26x100, .f32⟩
  | .hbm, ⟨21, _⟩ => ⟨S16384x26x100, .f32⟩
  | .hbm, ⟨22, _⟩ => ⟨S_, .f32⟩
  | .hbm, ⟨23, _⟩ => ⟨S16384x26, .f32⟩
  | .hbm, ⟨24, _⟩ => ⟨S16384x26x1, .f32⟩
  | .hbm, ⟨25, _⟩ => ⟨S16384x26x100, .f32⟩
  | .hbm, ⟨26, _⟩ => ⟨S16384x26x100, .f32⟩
  | .hbm, ⟨27, _⟩ => ⟨S16384x26x100, .i32⟩
  | .hbm, ⟨28, _⟩ => ⟨S_, .f32⟩
  | .hbm, ⟨29, _⟩ => ⟨S_, .i32⟩
  | .hbm, ⟨30, _⟩ => ⟨S16384x26, .f32⟩
  | .hbm, ⟨31, _⟩ => ⟨S16384x26, .i32⟩
  | .hbm, ⟨32, _⟩ => ⟨S16384x26, .f32⟩
  | .hbm, ⟨33, _⟩ => ⟨S16384x39, .f32⟩
  | _, _ => ⟨S16384x2626, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_1 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call1_v0 : Ref sig .tc := ⟨.hbm, 27, rfl⟩
abbrev main_call1_cst : Ref sig .tc := ⟨.hbm, 28, rfl⟩
abbrev main_call1_c : Ref sig .tc := ⟨.hbm, 29, rfl⟩
abbrev main_call1_v1_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.Common.lean ====
/-
  The launch's vocabulary for this kernel: the program as the launch theorem sees it, the resource algebra, the
  arrays' locations. Stated for any interpretation `F` of the float types.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

/-- The labels of the program without its SparseCore calls. -/
abbrev ΛP : Labels := Pipeline.Sig Λ₀ (Fin 0) fun p => (pcfgs (F := F) p).Adm
/-- The one SparseCore call. -/
abbrev K : SparseCore.Cfg τ sig (ΛP (F := F)) 1 := sc (F := F)
/-- The bodies the call's processors run. -/
abbrev D [FloatOps F] : Defs nD τ sig (Elt F) (ΛP (F := F)) := Pipeline.defs pcfgs defs₀
/-- No recursion measure is needed of the kernel's own labels, -/
abbrev 𝒱₀ : Variants := Variants.none
/-- nor of the launch's beyond the library's. -/
abbrev 𝒱 : Variants := 𝒱₀.lift
/-- The measure at the launch. -/
abbrev v₀ : 𝒱.V := Sum.inl none

/-- The launch semaphores are distinct and no kernel's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

/-- The handshakes' half. -/
abbrev UH : Type := URounds (GSem nD τ sig) ℕ
/-- With the transfers' counters. -/
abbrev UU : Type := UH × Counters

/-- The handshakes' half inside the machine's algebra. -/
abbrev EH : Emb UH (MT nD τ sig (HIx 1) (Elt F) ℕ UU ℕ) := embL

/-! ## The arrays -/

/-- The argument, -/
abbrev aLoc (d : Dev nD) : Loc nD τ sig := (SparseCore.T d).loc main_arg0
/-- its flattening, which the tiles read, -/
abbrev inLoc (d : Dev nD) : Loc nD τ sig := (SparseCore.T d).loc main_v0
/-- the flat array the tiles write, -/
abbrev outLoc (d : Dev nD) : Loc nD τ sig := (SparseCore.T d).loc main_v1
/-- and the result, which is that array reshaped. -/
abbrev rLoc (d : Dev nD) : Loc nD τ sig := (SparseCore.T d).loc main_v2

end Cert.Proof.K

end
-- ==== Proof.Spec.lean ====
/-
  What the kernel writes, as functions of what it reads, for any interpretation `F` of the float types: the
  sixteen lanes' row offsets, the five running maxima of a group of a hundred logits, the class they decide, and
  from these each word of the flat result.
-/
module

public import proofs.«01_k».proof.Proof.Common

@[expose] public section

noncomputable section

namespace Cert.Proof.K

open Cert.KernelIdeal Cert.KernelIdeal.Gen

open Idealize.ShloMosaic

variable {F : FTy → Type} [FloatOps F]

/-- A block of sixteen rows of the input, as a tile's buffer holds it. -/
abbrev Blk (F : FTy → Type) : Type := S42016.Idx → F .f32

/-- Position `n` of a one-axis shape, counted round. -/
def pos1 (N : ℕ) (hN : 0 < N) (n : ℕ) : (⟨1, ![N]⟩ : Shape).Idx :=
  fun a => ⟨n % N, by obtain rfl : a = 0 := Subsingleton.elim _ _; exact Nat.mod_lt _ hN⟩

/-- The words of a block at sixteen positions. -/
def gat (B : Blk F) (idx : IVec S16 32) : Vec F S16 .f32 := fun x => B (pos1 42016 (by decide) (idx x).toNat)

/-- The number of each lane. -/
def lanes : IVec S16 32 := iota .scVector S16 32 [0] Facts₀.iota_S16_d0_w32_scVector

/-- Where each lane's row starts in a block. -/
def rowOff : IVec S16 32 := muli lanes (broadcast S16 2626#32)

/-- Where group `w` of a hundred logits starts, in each lane's row. -/
def seg (w : BitVec 32) : IVec S16 32 := addi rowOff (broadcast S16 (Scalar.addi 26#32 (Scalar.muli w 100#32)))

/-- The position chain `j` of group `w` reads at its step `c`. -/
def G (w : BitVec 32) (j : ℕ) : ℕ → IVec S16 32
  | 0 => addi (seg w) (broadcast S16 (BitVec.ofNat 32 (20 * j)))
  | c + 1 => addi (G w j c) (broadcast S16 1#32)

/-- Chain `j`'s running maximum before its step `c`. -/
def M (B : Blk F) (w : BitVec 32) (j : ℕ) : ℕ → Vec F S16 .f32
  | 0 => broadcast S16 (Scalar.ofBits .f32 0xFF800000#32)
  | c + 1 => select (cmpf .ogt (gat B (G w j c)) (M B w j c)) (gat B (G w j c)) (M B w j c)

/-- Where chain `j`'s running maximum was found. -/
def X (B : Blk F) (w : BitVec 32) (j : ℕ) : ℕ → IVec S16 32
  | 0 => G w j 0
  | c + 1 => select (cmpf .ogt (gat B (G w j c)) (M B w j c)) (G w j c) (X B w j c)

/-- The maximum of the chains from `4 - n` on. -/
def CM (B : Blk F) (w : BitVec 32) : ℕ → Vec F S16 .f32
  | 0 => M B w 4 20
  | n + 1 => select (cmpf .oge (M B w (3 - n) 20) (CM B w n)) (M B w (3 - n) 20) (CM B w n)

/-- Where it was found: an earlier chain's on a tie. -/
def CX (B : Blk F) (w : BitVec 32) : ℕ → IVec S16 32
  | 0 => X B w 4 20
  | n + 1 => select (cmpf .oge (M B w (3 - n) 20) (CM B w n)) (X B w (3 - n) 20) (CX B w n)

/-- The class of group `w`, in each lane's row. -/
def catVec (B : Blk F) (w : BitVec 32) : Vec F S16 .f32 := sitofp .f32 (subi (CX B w 4) (seg w))

/-- Column `j` of the result, for the sixteen rows of a block: thirteen means, then twenty-six classes. -/
def colVec (B : Blk F) (j : ℕ) : Vec F S16 .f32 :=
  if j < 13 then gat B (addi rowOff (broadcast S16 (BitVec.ofNat 32 (2 * j)))) else catVec B (BitVec.ofNat 32 (j - 13))

/-- Block `b` of the flat input. -/
def blk (A : S43024384.Idx → F .f32) (b : ℕ) : Blk F := fun y => A (pos1 43024384 (by decide) (42016 * b + (y 0).val))

/-- A lane's number as a position of a register. -/
def laneIx (r : ℕ) : S16.Idx := pos1 16 (by decide) r

/-- The word at position `p` of a run of blocks starting at block `b₀`. -/
def outWord (A : S43024384.Idx → F .f32) (b₀ p : ℕ) : F .f32 :=
  colVec (blk A (b₀ + p / 624)) (p % 624 % 39) (laneIx (p % 624 / 39))

/-- The flat result as a function of the flat input. -/
def OUT (A : S43024384.Idx → F .f32) : S638976.Idx → F .f32 := fun p => outWord A 0 (p 0).val

/-! ## The positions are inside a block -/

/-- A lane's number as a natural number, -/
theorem lanes_toNat (x : S16.Idx) : (lanes x).toNat = (x 0).val := by
  have h : (x 0).val < 16 := (x 0).isLt
  show (BitVec.ofNat 32 (0 * 16 + (x 0).val)).toNat = _
  rw [BitVec.toNat_ofNat]; omega

/-- its row's start, -/
theorem rowOff_toNat (x : S16.Idx) : (rowOff x).toNat = 2626 * (x 0).val := by
  have h : (x 0).val < 16 := (x 0).isLt
  show (lanes x * 2626#32).toNat = _
  rw [BitVec.toNat_mul, lanes_toNat, BitVec.toNat_ofNat]; omega

/-- a group's start in its row, -/
theorem seg_toNat {w : BitVec 32} (hw : w.toNat < 26) (x : S16.Idx) :
    (seg w x).toNat = 2626 * (x 0).val + 26 + 100 * w.toNat := by
  have h : (x 0).val < 16 := (x 0).isLt
  show (rowOff x + (26#32 + w * 100#32)).toNat = _
  rw [BitVec.toNat_add, rowOff_toNat, BitVec.toNat_add, BitVec.toNat_mul, BitVec.toNat_ofNat, BitVec.toNat_ofNat]; omega

/-- the position that a chain reads at a step, -/
theorem G_toNat {w : BitVec 32} (hw : w.toNat < 26) {j : ℕ} (hj : j < 5) (x : S16.Idx) :
    ∀ c, c ≤ 20 → (G w j c x).toNat = 2626 * (x 0).val + 26 + 100 * w.toNat + 20 * j + c
  | 0, _ => by
    have h : (x 0).val < 16 := (x 0).isLt
    show (seg w x + BitVec.ofNat 32 (20 * j)).toNat = _
    rw [BitVec.toNat_add, seg_toNat hw, BitVec.toNat_ofNat]; omega
  | c + 1, hc => by
    have h : (x 0).val < 16 := (x 0).isLt
    show (G w j c x + 1#32).toNat = _
    rw [BitVec.toNat_add, G_toNat hw hj x c (by omega), BitVec.toNat_ofNat]; omega

/-- Every position a chain reads is inside the block. -/
theorem G_inb {w : BitVec 32} (hw : w.toNat < 26) (j c : ℕ) (hj : j < 5) (hc : c < 20) :
    ∀ a x, ((![G w j c] : Fin 1 → IVec S16 32) a x).toNat < S42016.size a := fun a x => by
  obtain rfl : a = 0 := Subsingleton.elim _ _
  have h : (x 0).val < 16 := (x 0).isLt
  show (G w j c x).toNat < 42016
  rw [G_toNat hw hj x c (by omega)]; omega

/-- and the position that a mean is read at. -/
theorem mu_toNat {n : ℕ} (hn : n < 26) (x : S16.Idx) : (addi rowOff (broadcast S16 (BitVec.ofNat 32 n)) x).toNat = 2626 * (x 0).val + n := by
  have h : (x 0).val < 16 := (x 0).isLt
  show (rowOff x + BitVec.ofNat 32 n).toNat = _
  rw [BitVec.toNat_add, rowOff_toNat, BitVec.toNat_ofNat]; omega

/-- Every position a mean is read at is inside the block. -/
theorem mu_inb (n : ℕ) (hn : n < 26) :
    ∀ a x, ((![addi rowOff (broadcast S16 (BitVec.ofNat 32 n))] : Fin 1 → IVec S16 32) a x).toNat < S42016.size a := fun a x => by
  obtain rfl : a = 0 := Subsingleton.elim _ _
  have h : (x 0).val < 16 := (x 0).isLt
  show (addi rowOff (broadcast S16 (BitVec.ofNat 32 n)) x).toNat < 42016
  rw [mu_toNat hn]; omega

/-! ## The running maxima, a step at a time (the shapes in which the text gives them) -/

section Canon
variable (B : Blk F) (w : BitVec 32) (j c : ℕ)

/-- The next position. -/
theorem G_step : addi (G w j c) (broadcast S16 1#32) = G w j (c + 1) := rfl
/-- The first maximum. -/
theorem M_first : select (α := Elt F .f32) (cmpf .ogt (gat B (G w j 0)) (broadcast (α := F .f32) S16 (Scalar.ofBits .f32 0xFF800000#32)))
    (gat B (G w j 0)) (broadcast (α := F .f32) S16 (Scalar.ofBits .f32 0xFF800000#32)) = M B w j 1 := rfl
/-- The same, its type spelt differently. -/
theorem M_first' : select (α := F .f32) (cmpf .ogt (gat B (G w j 0)) (broadcast (α := F .f32) S16 (Scalar.ofBits .f32 0xFF800000#32)))
    (gat B (G w j 0)) (broadcast (α := F .f32) S16 (Scalar.ofBits .f32 0xFF800000#32)) = M B w j 1 := rfl
/-- Its place. -/
theorem X_first : select (cmpf .ogt (gat B (G w j 0)) (broadcast (α := F .f32) S16 (Scalar.ofBits .f32 0xFF800000#32))) (G w j 0) (G w j 0) = X B w j 1 := rfl
/-- The next maximum. -/
theorem M_step : select (α := Elt F .f32) (cmpf .ogt (gat B (G w j c)) (M B w j c)) (gat B (G w j c)) (M B w j c) = M B w j (c + 1) := rfl
/-- The same, its type spelt differently. -/
theorem M_step' : select (α := F .f32) (cmpf .ogt (gat B (G w j c)) (M B w j c)) (gat B (G w j c)) (M B w j c) = M B w j (c + 1) := rfl
/-- Its place. -/
theorem X_step : select (cmpf .ogt (gat B (G w j c)) (M B w j c)) (G w j c) (X B w j c) = X B w j (c + 1) := rfl
/-- Where the first chain starts, -/
theorem G_zero0 : addi (seg w) (broadcast S16 0#32) = G w 0 0 := rfl
/-- the second, -/
theorem G_zero1 : addi (seg w) (broadcast S16 20#32) = G w 1 0 := rfl
/-- the third, -/
theorem G_zero2 : addi (seg w) (broadcast S16 40#32) = G w 2 0 := rfl
/-- the fourth, -/
theorem G_zero3 : addi (seg w) (broadcast S16 60#32) = G w 3 0 := rfl
/-- the fifth. -/
theorem G_zero4 : addi (seg w) (broadcast S16 80#32) = G w 4 0 := rfl
/-- Where the group starts. -/
theorem seg_def : addi rowOff (broadcast S16 (Scalar.addi 26#32 (Scalar.muli w 100#32))) = seg w := rfl

end Canon

end Cert.Proof.K

end
-- ==== Proof.Steps.lean ====
/-
  A tile's steps between its transfers, as rules that keep what is held in front of them: a bind, an assumed side
  condition, a gather out of an input buffer, a scatter into the output buffer. The output buffer is held by what
  it already agrees with: the target `E` on the blocks before block `b` and on the first `m` columns of block `b`.
-/
module

public import proofs.«01_k».proof.Proof.Spec

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The weakest precondition of a tile's program. -/
abbrev wpT (d : Dev nD) (L : grid0.Coords) {α : Type}
    (p : Prog (TpuEff nD τ sig (Elt F) Λ₀ (.scVector ((L 0).castLE Facts₀.hcore0) ((L 1).castLE Facts₀.hsub0))) α) (Q : α → sProp 𝕄) : sProp 𝕄 :=
  wp frame (wpE (defs₀ (F := F)) 𝒱₀ (V d ((L 0).castLE Facts₀.hcore0) ((L 1).castLE Facts₀.hsub0)) none) Set.univ p Q

/-- A tile. -/
abbrev tV (d : Dev nD) (L : grid0.Coords) : Thread nD τ := V d ((L 0).castLE Facts₀.hcore0) ((L 1).castLE Facts₀.hsub0)

section Basic
variable {d : Dev nD} {L : grid0.Coords} {α β : Type}

/-- A step, then what follows. -/
theorem step_bind {P : sProp 𝕄} {Q : α → sProp 𝕄} {p : Prog (TpuEff nD τ sig (Elt F) Λ₀ (tV d L).2) β} {k : β → Prog (TpuEff nD τ sig (Elt F) Λ₀ (tV d L).2) α}
    (h : P ⊢ wpT d L p fun a => wpT d L (k a) Q) : P ⊢ wpT d L (p >>= k) Q := by
  unfold wpT at h ⊢
  rw [wp_bind frame _ _ p k Q]; exact h

/-- What follows, put aside. -/
theorem step_aside {P : sProp 𝕄} {Q : α → sProp 𝕄} {p : Prog (TpuEff nD τ sig (Elt F) Λ₀ (tV d L).2) α}
    (h : ∀ K : α → sProp 𝕄, K = Q → P ⊢ wpT d L p K) : P ⊢ wpT d L p Q := h Q rfl

/-- Nothing left to do. -/
theorem step_pure {P : sProp 𝕄} {Q : α → sProp 𝕄} {a : α} (h : P ⊢ Q a) : P ⊢ wpT d L (pure a) Q := by
  unfold wpT
  rw [wp_pure frame _ _ a Q]
  iintro H
  imodintro
  iapply h $$ H

/-- A side condition that holds. -/
theorem step_assume {P : sProp 𝕄} {Q : α → sProp 𝕄} {c : Prop} {dc : Decidable c} {k : PLift c → Prog (TpuEff nD τ sig (Elt F) Λ₀ (tV d L).2) α} (hc : c)
    (h : P ⊢ wpT d L (k ⟨hc⟩) Q) : P ⊢ wpT d L (Prog.lift (TpuEff.assume c dc) >>= k) Q := by
  unfold wpT at h ⊢
  show P ⊢ wp frame _ _ (.op (.assume c dc) k) Q
  rw [wp_assume_of 𝒱₀ (tV d L) none Set.univ hc]
  exact h

end Basic

variable (d : Dev nD) (L : grid0.Coords)

/-- A gather out of a buffer of a block: the words at the named positions. -/
theorem step_gather {α : Type} {Q : α → sProp 𝕄} {R : sProp 𝕄} (arg : Memref sig .scVector .vmem S42016 .f32) {idx : IVec S16 32}
    {h : ∀ a x, ((![idx] : Fin 1 → IVec S16 32) a x).toNat < S42016.size a} {hl : arg.view.Loads} {q : PosShare TreeShare}
    {f : Buf (Elt F) ((arg.access (.whole S42016)).loc (tV d L))}
    {k : Vec F S16 .f32 → Prog (TpuEff nD τ sig (Elt F) Λ₀ (tV d L).2) α} {B : Blk F} (hB : (arg.access (.whole S42016)).read (Elt F) f = B)
    (H : iprop(((arg.access (.whole S42016)).loc (tV d L) ↦[Finset.univ]{q} f) ∗ R) ⊢ wpT d L (k (gat B idx)) Q) :
    iprop(((arg.access (.whole S42016)).loc (tV d L) ↦[Finset.univ]{q} f) ∗ R)
      ⊢ wpT d L (SparseCore.vectorLoadIdx arg ![idx] h hl >>= k) Q := by
  subst hB
  have hg : loadIdx (F := F) (e := .f32) ((arg.access (.whole S42016)).read (Elt F) f) ![idx] h = gat ((arg.access (.whole S42016)).read (Elt F) f) idx := by
    funext x
    refine congrArg ((arg.access (.whole S42016)).read (Elt F) f) (?_ : idxAt ![idx] h x = pos1 42016 (by decide) (idx x).toNat)
    refine funext fun a => ?_
    obtain rfl : a = 0 := Subsingleton.elim _ _
    exact Fin.ext (Nat.mod_eq_of_lt (h 0 x)).symm
  rw [← hg] at H
  unfold wpT at H ⊢
  iintro ⟨Hb, HR⟩
  iapply (SparseCore.wp_vectorLoadIdx (defs := defs₀ (F := F)) 𝒱₀ (tV d L) none Set.univ (base := arg) (idxs := ![idx]) (hl := hl) (k := k)
    (Finset.subset_univ _)) $$ Hb
  iintro Hb
  iapply H
  isplitl [Hb]
  · iexact Hb
  · iexact HR

/-! ## Scatters -/

/-- A scatter of words that are a target's at the positions they go to leaves the target's word wherever it was
    already, and wherever a lane writes. -/
theorem storeIdx_good {s : Shape} {E f : Vec F s .f32} {idxs : Fin s.rank → IVec S16 32} {v : Vec F S16 .f32}
    {h : ∀ a x, (idxs a x).toNat < s.size a} (hv : ∀ x, v x = E (idxAt idxs h x)) (j : s.Idx)
    (hj : f j = E j ∨ ∃ x, ∀ a, (j a).val = (idxs a x).toNat) :
    storeIdx f idxs v (fun _ => 1#1) false h j = E j := by
  have e₀ : storeIdx f idxs v (fun _ => 1#1) false h = (List.finRange 16).foldl (fun g k => fun i =>
      if (∀ a, (i a).val = (idxAt idxs h (Shape.ofLane (d := ![16]) k) a).val) then v (Shape.ofLane (d := ![16]) k) else g i) f := by
    unfold storeIdx
    refine congrArg (fun st => List.foldl st f (List.finRange 16)) ?_
    funext g k
    exact (if_pos (show (fun _ => 1#1 : IVec S16 1) (Shape.ofLane (d := ![16]) k) = 1 from rfl)).trans (by simp only [Bool.false_eq_true, if_false])
  rw [e₀]
  have key : ∀ (l : List (Fin 16)) (g : Vec F s .f32), (g j = E j ∨ ∃ k ∈ l, ∀ a, (j a).val = (idxs a (Shape.ofLane (d := ![16]) k)).toNat) →
      l.foldl (fun g k => fun i => if (∀ a, (i a).val = (idxAt idxs h (Shape.ofLane (d := ![16]) k) a).val) then v (Shape.ofLane (d := ![16]) k) else g i) g j = E j := by
    intro l
    induction l with
    | nil => intro g hg; rcases hg with hg | ⟨k, hk, _⟩; exact hg; exact absurd hk (List.not_mem_nil)
    | cons k l ih =>
      intro g hg
      refine ih _ ?_
      by_cases hk : ∀ a, (j a).val = (idxAt idxs h (Shape.ofLane (d := ![16]) k) a).val
      · left
        have e : j = idxAt idxs h (Shape.ofLane (d := ![16]) k) := funext fun a => Fin.ext (hk a)
        simp only [if_pos hk]
        rw [hv, ← e]
      · simp only [if_neg hk]
        rcases hg with hg | ⟨k', hk', hh⟩
        · exact .inl hg
        · rcases List.mem_cons.1 hk' with rfl | hk'
          · exact absurd hh hk
          · exact .inr ⟨k', hk', hh⟩
  refine key (List.finRange 16) f ?_
  rcases hj with hj | ⟨x, hx⟩
  · exact .inl hj
  · refine .inr ⟨x 0, List.mem_finRange _, ?_⟩
    have e : (Shape.ofLane (d := ![16]) (x 0) : S16.Idx) = x := funext fun a => by
      obtain rfl : a = 0 := Subsingleton.elim _ _; rfl
    intro a; rw [e]; exact hx a

/-- The output buffer agrees with `E` on the blocks before `b` and on the first `m` columns of block `b`. -/
def Good (E : ℕ → F .f32) (b m : ℕ) (O : S19968.Idx → F .f32) : Prop :=
  ∀ p : S19968.Idx, ((p 0).val < 624 * b ∨ ((p 0).val / 624 = b ∧ (p 0).val % 624 % 39 < m)) → O p = E (p 0).val

/-- Where block `b`'s rows start in the output buffer, lane by lane. -/
def outOff (b : ℕ) : IVec S16 32 := addi (broadcast S16 (BitVec.ofNat 32 (624 * b))) (muli lanes (broadcast S16 39#32))

/-- The positions of column `m` of block `b`. -/
def outIx (b m : ℕ) : IVec S16 32 := addi (outOff b) (broadcast S16 (BitVec.ofNat 32 m))

/-- The position of column `m` of a lane's row in the output buffer. -/
theorem outIx_toNat {b m : ℕ} (hb : b < 32) (hm : m < 39) (x : S16.Idx) : (outIx b m x).toNat = 624 * b + 39 * (x 0).val + m := by
  have h : (x 0).val < 16 := (x 0).isLt
  show (BitVec.ofNat 32 (624 * b) + lanes x * 39#32 + BitVec.ofNat 32 m).toNat = _
  rw [BitVec.toNat_add, BitVec.toNat_add, BitVec.toNat_mul, lanes_toNat, BitVec.toNat_ofNat, BitVec.toNat_ofNat, BitVec.toNat_ofNat]; omega

/-- They are inside the buffer. -/
theorem outIx_inb {b m : ℕ} (hb : b < 32) (hm : m < 39) :
    ∀ a x, ((![outIx b m] : Fin 1 → IVec S16 32) a x).toNat < S19968.size a := fun a x => by
  obtain rfl : a = 0 := Subsingleton.elim _ _
  have h : (x 0).val < 16 := (x 0).isLt
  show (outIx b m x).toNat < 19968
  rw [outIx_toNat hb hm]; omega

/-- Storing column `m` extends the agreement by it. -/
theorem Good.store {E : ℕ → F .f32} {b m : ℕ} (hb : b < 32) (hm : m < 39) {O : S19968.Idx → F .f32} (hO : Good E b m O) {v : Vec F S16 .f32}
    (hv : ∀ x, v x = E (624 * b + 39 * (x 0).val + m)) (h : ∀ a x, ((![outIx b m] : Fin 1 → IVec S16 32) a x).toNat < S19968.size a) :
    Good E b (m + 1) (storeIdx (F := F) (e := .f32) O ![outIx b m] v (fun _ => 1#1) false h) := by
  intro p hp
  refine storeIdx_good (E := fun p => E (p 0).val) (fun x => ?_) p ?_
  · rw [hv]
    exact congrArg E (outIx_toNat hb hm x).symm
  · by_cases hc : (p 0).val < 624 * b ∨ ((p 0).val / 624 = b ∧ (p 0).val % 624 % 39 < m)
    · exact .inl (hO p hc)
    · right
      have h16 : (p 0).val % 624 / 39 < 16 := by omega
      refine ⟨pos1 16 (by decide) ((p 0).val % 624 / 39), fun a => ?_⟩
      obtain rfl : a = 0 := Subsingleton.elim _ _
      show (p 0).val = (outIx b m _).toNat
      rw [outIx_toNat hb hm]
      show (p 0).val = 624 * b + 39 * ((p 0).val % 624 / 39 % 16) + m
      omega

/-- The output buffer, held by what it agrees with. -/
def outHeld (E : ℕ → F .f32) (b m : ℕ) : sProp 𝕄 :=
  iprop(∃ O : Buf (Elt F) ((tV d L).loc cc0_scratch2), ⌜Good E b m O⌝ ∗ ((tV d L).loc cc0_scratch2 ↦[Finset.univ]{fullShare} O))

/-- The whole output buffer, as a scatter names it. -/
abbrev outAcc : View sig .scVector .vmem S19968 .f32 := (Memref.whole cc0_scratch2 : Memref sig .scVector .vmem S19968 .f32).access (.whole S19968)

omit [FloatOps F] in
/-- It is the tile's output buffer. -/
theorem pts_outAcc (d : Dev nD) (L : grid0.Coords) (O : S19968.Idx → F .f32) :
    iprop(outAcc.loc (tV d L) ↦[outAcc.set]{fullShare} O) = (iprop((tV d L).loc cc0_scratch2 ↦[Finset.univ]{fullShare} O) : sProp 𝕄) := by
  rw [show outAcc.set = Finset.univ from Memref.set_access_whole cc0_scratch2]

/-- A scatter of column `m`. -/
theorem step_scatter {α : Type} {Q : α → sProp 𝕄} {A R : sProp 𝕄} {E : ℕ → F .f32} {b m : ℕ} (hb : b < 32) (hm : m < 39)
    {idx : IVec S16 32} (hi : idx = outIx b m) {v : Vec F S16 .f32} (hv : ∀ x, v x = E (624 * b + 39 * (x 0).val + m))
    {h : ∀ a x, ((![idx] : Fin 1 → IVec S16 32) a x).toNat < S19968.size a}
    {hs : ((Memref.whole cc0_scratch2 : Memref sig .scVector .vmem S19968 .f32).access (.whole S19968)).Stores Finset.univ}
    {k : PUnit → Prog (TpuEff nD τ sig (Elt F) Λ₀ (tV d L).2) α}
    (H : iprop(A ∗ outHeld d L E b (m + 1) ∗ R) ⊢ wpT d L (k ⟨⟩) Q) :
    iprop(A ∗ outHeld d L E b m ∗ R)
      ⊢ wpT d L (SparseCore.vectorStoreIdx (Memref.whole cc0_scratch2 : Memref sig .scVector .vmem S19968 .f32) ![idx] v (fun _ => 1#1) false h hs >>= k) Q := by
  subst hi
  unfold wpT at H ⊢
  unfold outHeld
  iintro ⟨HA, ⟨%O, %hO, HO⟩, HR⟩
  ihave HO := (Entails.of_eq (pts_outAcc d L O).symm) $$ HO
  iapply (SparseCore.wp_vectorStoreIdx (defs := defs₀ (F := F)) 𝒱₀ (tV d L) none Set.univ
    (base := (Memref.whole cc0_scratch2 : Memref sig .scVector .vmem S19968 .f32)) (idxs := ![outIx b m]) (v := v) (h := h) (hs := hs) (k := k)) $$ HO
  iintro HO
  iapply H
  isplitl [HA]
  · iexact HA
  isplitl [HO]
  · unfold outHeld
    iexists (storeIdx (F := F) (e := .f32) O ![outIx b m] v (fun _ => 1#1) false h)
    isplitr
    · ipureintro; exact hO.store hb hm hv h
    · ihave HO := (Entails.of_eq ((congrArg (fun w => iprop(outAcc.loc (tV d L) ↦[outAcc.set]{fullShare} w))
        ((Memref.write_access_whole_univ (Elt F) cc0_scratch2 _ _).trans
          (congrArg (fun r => storeIdx (F := F) (e := .f32) r ![outIx b m] v (fun _ => 1#1) false h) (Memref.read_access_whole (Elt F) cc0_scratch2 O)))).trans
        (pts_outAcc d L _))) $$ HO
      iexact HO
  · iexact HR

end Cert.Proof.K

end
-- ==== Proof.Trip.lean ====
/-
  One group of a hundred logits, in the sixteen rows of a block: the five chains' gathers and comparisons.
-/
module

public import proofs.«01_k».proof.Proof.Steps

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The group's number is below twenty-six. -/
theorem iv_toNat (k : ℕ) (hk : k < 2 ^ 32) : (Scf.iv 0#32 1#32 k).toNat = k := by
  show (0#32 + BitVec.ofNat 32 k * 1#32).toNat = k
  rw [BitVec.toNat_add, BitVec.toNat_mul, BitVec.toNat_ofNat, BitVec.toNat_ofNat, BitVec.toNat_ofNat]; omega

attribute [local irreducible] wp SparseCore.vectorLoadIdx SparseCore.vectorStoreIdx Prog.lift

set_option maxHeartbeats 4000000 in
/-- A group's gathers and comparisons end with its classes, where they go, and the group's number. -/
theorem trip_part14 (d : Dev nD) (L : grid0.Coords)
    (arg2 : Memref sig .scVector .hbm S43024384 .f32) (harg2 : arg2.IsWhole) (arg3 : Memref sig .scVector .hbm S638976 .f32) (harg3 : arg3.IsWhole)
    (arg4 : Memref sig .scVector .vmem S42016 .f32) (harg4 : arg4.IsWhole) (arg5 : Memref sig .scVector .vmem S42016 .f32) (harg5 : arg5.IsWhole)
    (arg6 : Memref sig .scVector .vmem S19968 .f32) (harg6 : arg6.IsWhole) (arg7 arg8 v20 : DmaSems sig S_)
    (k : Fin k0_t2_loop.trips) (b : ℕ) {q : PosShare TreeShare} {f : Buf (Elt F) ((arg4.access (.whole S42016)).loc (tV d L))} {R : sProp 𝕄}
    {Q : (Σ' (_ : FVec F S16 .f32) (_ : IVec S16 32), IVec S16 32) → sProp 𝕄}
    (hw : (Scf.iv 0#32 1#32 k.val).toNat < 26)
    (H : iprop(((arg4.access (.whole S42016)).loc (tV d L) ↦[Finset.univ]{q} f) ∗ R)
      ⊢ Q ⟨catVec ((arg4.access (.whole S42016)).read (Elt F) f) (Scf.iv 0#32 1#32 k.val), addi (outOff b) (broadcast S16 13#32), broadcast S16 (Scf.iv 0#32 1#32 k.val)⟩) :
    iprop(((arg4.access (.whole S42016)).loc (tV d L) ↦[Finset.univ]{q} f) ∗ R)
      ⊢ wpT d L (k0_part14 L arg2 harg2 arg3 harg3 arg4 harg4 arg5 harg5 arg6 harg6 arg7 arg8 v20 rowOff (outOff b) 0#32 1#32 k) Q := by
  have hG : ∀ j c, j < 5 → c < 20 → ∀ a x, ((![G (Scf.iv 0#32 1#32 k.val) j c] : Fin 1 → IVec S16 32) a x).toNat < S42016.size a := G_inb hw
  generalize hB : (arg4.access (.whole S42016)).read (Elt F) f = B at H
  unfold k0_part14
  iterate 13
    refine step_bind ?_
    refine step_aside fun K hK => ?_
    first
      | unfold k0_part1 | unfold k0_part2 | unfold k0_part3 | unfold k0_part4 | unfold k0_part5 | unfold k0_part6 | unfold k0_part7
      | unfold k0_part8 | unfold k0_part9 | unfold k0_part10 | unfold k0_part11 | unfold k0_part12 | unfold k0_part13
    dsimp only [G_step, G_zero0, G_zero1, G_zero2, G_zero3, G_zero4, seg_def, Nat.reduceAdd]
    repeat (first | (refine step_assume ?_ ?_; · exact hG _ _ (by decide) (by decide)) | (refine step_gather d L arg4 hB ?_))
    refine step_pure ?_
    dsimp only [G_step, M_first, M_first', X_first, M_step, M_step', X_step, Nat.reduceAdd]
    subst hK
  dsimp only [G_step, Nat.reduceAdd]
  repeat (first | (refine step_assume ?_ ?_; · exact hG _ _ (by decide) (by decide)) | (refine step_gather d L arg4 hB ?_))
  refine step_pure ?_
  dsimp only [M_step, M_step', X_step, Nat.reduceAdd]
  exact H

end Cert.Proof.K

end
-- ==== Proof.Dma.lean ====
/-
  A tile's copies and its loops, as rules that keep what is held in front of them. A block's copy lends the whole
  share of the flat input the tile has set aside for its buffer, and its wait gives the buffer back at the block.
-/
module

public import proofs.«01_k».proof.Proof.Trip

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The transfers' counters inside the machine's algebra. -/
abbrev EC : UEmb Counters (MT nD τ sig (HIx 1) (Elt F) ℕ UU ℕ) := countersEmb

variable (d : Dev nD) (L : grid0.Coords)

/-- The flat input, as a tile names it. -/
abbrev inV : Memref sig .scVector .hbm S43024384 .f32 := Memref.whole main_v0_scv

/-- Something set aside until a copy's wait. -/
theorem flight_keep {sm : SemLoc sig} {N : ℕ} {A X : sProp 𝕄} :
    iprop(Transfers.Flight EC (tV d L) sm none N A ∗ X) ⊢ Transfers.Flight EC (tV d L) sm none N iprop(A ∗ X) := by
  unfold Transfers.Flight
  iintro ⟨⟨⟨%R, HR, %hcap, %hpeek⟩, Hcred⟩, HX⟩
  isplitl [HR HX]
  · iexists iprop(R ∗ X)
    isplitl [HR HX]
    · isplitl [HR]
      · iexact HR
      · iexact HX
    isplit
    · ipureintro
      intro K
      refine BIBase.Entails.trans ?_ (hcap K)
      iintro ⟨⟨HR, HX⟩, HK⟩
      isplitl [HR]; · iexact HR
      iintro ⟨Hv, HA⟩
      iapply HK
      isplitl [Hv]; · iexact Hv
      isplitl [HA]
      · iexact HA
      · iexact HX
    · ipureintro
      intro K
      refine BIBase.Entails.trans ?_ (hpeek K)
      iintro ⟨⟨HR, HX⟩, HK⟩
      isplitl [HR]; · iexact HR
      iintro HR
      iapply HK
      isplitl [HR]
      · iexact HR
      · iexact HX
  · iexact Hcred

/-- A buffer holding a block. -/
def bufHeld (arg : Memref sig .scVector .vmem S42016 .f32) (B : Blk F) : sProp 𝕄 :=
  iprop(∃ f, ⌜(arg.access (.whole S42016)).read (Elt F) f = B⌝ ∗ ((arg.access (.whole S42016)).loc (tV d L) ↦[Finset.univ]{fullShare} f))

/-- A buffer that block `n` is on its way to, with the share of the input lent to it. -/
def fly (arg : Memref sig .scVector .vmem S42016 .f32) (sem : DmaSem sig) (q : PosShare TreeShare) (A : S43024384.Idx → F .f32) (n : ℕ) : sProp 𝕄 :=
  Transfers.Flight EC (tV d L) (.dma sem) none arg.view.dmaCredit iprop(bufHeld d L arg (blk A n) ∗ (inLoc d ↦[Finset.univ]{q} A))

/-- What the tile owes, its waits so far the launch's or the kernel's own, with leave to wait. -/
def ow (O : CellTallies nD τ sig (HIx 1)) (W : Waits sig (HIx 1)) : sProp 𝕄 :=
  iprop((∃ W', ⌜∀ p ∈ W', p ∈ W ∨ p.2 = none⌝ ∗ owes (tV d L) O W') ∗ Transfers.MayWaits (tV d L) none O)

/-- The slice at a block's offset reads the block. -/
theorem read_blk (A : S43024384.Idx → F .f32) (n : ℕ) (hn : n < 1024) (off : Fin 1 → ℕ) (hoff : off = ![42016 * n]) (h : ∀ a, off a + S42016.size a ≤ S43024384.size a) :
    ((inV.slice (Rect.unit (s := S43024384) off S42016.size h) (fun _ => rfl)).view.read (Elt F) A : S42016.Idx → F .f32) = blk A n := by
  subst hoff
  funext y
  refine (View.read_apply _ _).trans ((cast_eq _ _).trans (congrArg A ?_))
  refine funext fun (a : Fin 1) => ?_
  obtain rfl : a = 0 := Subsingleton.elim _ _
  refine Fin.ext ?_
  have hy : (y 0).val < 42016 := (y 0).isLt
  show 42016 * n + 1 * (y 0).val = (42016 * n + (y 0).val) % 43024384
  omega

/-- What a block's copy lands, with the rest of the share lent to it. -/
theorem landed (arg : Memref sig .scVector .vmem S42016 .f32)
    (hw : ∀ f w, (arg.access (.whole S42016)).read (Elt F) (arg.view.write (Elt F) f w Finset.univ) = w)
    (A : S43024384.Idx → F .f32) (n : ℕ) (hn : n < 1024) {q : PosShare TreeShare}
    {off : Fin 1 → ℕ} (hoff : off = ![42016 * n]) {h : ∀ a, off a + S42016.size a ≤ S43024384.size a}
    {f : Buf (Elt F) (arg.view.loc (tV d L))} :
    iprop(((arg.view.loc (tV d L) ↦[Finset.univ]{fullShare} (arg.view.write (Elt F) f
          (ReadAs.same.apply ((inV.slice (Rect.unit (s := S43024384) off S42016.size h) (fun _ => rfl)).view.read (Elt F) A)) Finset.univ))
        ∗ ((inV.slice (Rect.unit (s := S43024384) off S42016.size h) (fun _ => rfl)).view.loc (tV d L)
            ↦[(inV.slice (Rect.unit (s := S43024384) off S42016.size h) (fun _ => rfl)).view.set]{q} A))
        ∗ (inLoc d ↦[Finset.univ \ (inV.slice (Rect.unit (s := S43024384) off S42016.size h) (fun _ => rfl)).view.set]{q} A))
      ⊢ (iprop(bufHeld d L arg (blk A n) ∗ (inLoc d ↦[Finset.univ]{q} A)) : sProp 𝕄) := by
  iintro ⟨⟨Hb, HA⟩, HA'⟩
  isplitl [Hb]
  · unfold bufHeld
    iexists (arg.view.write (Elt F) f
          (ReadAs.same.apply ((inV.slice (Rect.unit (s := S43024384) off S42016.size h) (fun _ => rfl)).view.read (Elt F) A)) Finset.univ)
    isplitr
    · ipureintro; exact (hw _ _).trans (read_blk A n hn off hoff h)
    · iexact Hb
  · iapply (pointsTo_split_subset (Finset.subset_univ ((inV.slice (Rect.unit (s := S43024384) off S42016.size h) (fun _ => rfl)).view.set))).2
    isplitl [HA]
    · iexact HA
    · iexact HA'

/-- Starting a block's copy. -/
theorem step_dma {α : Type} {Q : α → sProp 𝕄} {R : sProp 𝕄} (arg : Memref sig .scVector .vmem S42016 .f32) {sem : DmaSem sig}
    (hw : ∀ f w, (arg.access (.whole S42016)).read (Elt F) (arg.view.write (Elt F) f w Finset.univ) = w)
    (A : S43024384.Idx → F .f32) (n : ℕ) (hn : n < 1024) {q : PosShare TreeShare}
    {off : Fin 1 → ℕ} (hoff : off = ![42016 * n]) {h : ∀ a, off a + S42016.size a ≤ S43024384.size a}
    {f : Buf (Elt F) ((arg.access (.whole S42016)).loc (tV d L))}
    {h1 : (inV.slice (Rect.unit (s := S43024384) off S42016.size h) (fun _ => rfl)).view.WordExact} {h2 : arg.view.WordExact}
    {h3 : DmaTarget.Typed (nD := nD) (p := (tV d L).2) .hbm (.dma sem) (.here arg)}
    {k : PUnit → Prog (TpuEff nD τ sig (Elt F) Λ₀ (tV d L).2) α}
    (H : iprop(fly d L arg sem q A n ∗ R) ⊢ wpT d L (k ⟨⟩) Q) :
    iprop((inLoc d ↦[Finset.univ]{q} A) ∗ ((arg.access (.whole S42016)).loc (tV d L) ↦[Finset.univ]{fullShare} f) ∗ semVal (tV d L, .dma sem) 0 ∗ R)
      ⊢ wpT d L (Prog.lift (.enqueueDma (inV.slice (Rect.unit (s := S43024384) off S42016.size h) (fun _ => rfl)) (.here arg) (.dma sem) h1 h2 h3) >>= k) Q := by
  unfold wpT at H ⊢
  iintro ⟨HA, Hf, Hs, HR⟩
  ihave HA := (pointsTo_split_subset (Finset.subset_univ ((inV.slice (Rect.unit (s := S43024384) off S42016.size h) (fun _ => rfl)).view.set))).1 $$ HA
  icases HA with ⟨HA, HA'⟩
  iapply (Transfers.wp_dmaLocal EC 𝒱₀ (tV d L) none (src := inV.slice (Rect.unit (s := S43024384) off S42016.size h) (fun _ => rfl)) (dst := arg)
    (via := .same) (sm := .dma sem) (k := k) (Q := Q) (fs := A) (fd := f) (q := q) none arg.view.dmaCredit rfl (View.dmaCredit_pos _ (by decide)) (Finset.subset_univ _)) $$ [HA Hf Hs]
  · isplitl [HA]
    · iexact HA
    isplitl [Hf]
    · iexact Hf
    · iexact Hs
  iintro Hfly
  iapply H
  isplitl [Hfly HA']
  · unfold fly
    ihave Hfly := (flight_keep d L) $$ [Hfly HA']
    · isplitl [Hfly]
      · iexact Hfly
      · iexact HA'
    iapply (Transfers.Flight_mono EC (tV d L) (landed d L arg hw A n hn hoff)) $$ Hfly
  · iexact HR

/-- Waiting for a block. -/
theorem step_wait {α : Type} {Q : α → sProp 𝕄} {R : sProp 𝕄} (arg : Memref sig .scVector .vmem S42016 .f32) {sem : DmaSem sig}
    {A : S43024384.Idx → F .f32} {n : ℕ} {q : PosShare TreeShare} {O : CellTallies nD τ sig (HIx 1)} {W : Waits sig (HIx 1)}
    {srcw : Memref sig .scVector .hbm S42016 .f32} {h1 : srcw.view.WordExact} {h2 : arg.view.WordExact}
    {k : PUnit → Prog (TpuEff nD τ sig (Elt F) Λ₀ (tV d L).2) α}
    (H : ∀ f, (arg.access (.whole S42016)).read (Elt F) f = blk A n →
      iprop(((arg.access (.whole S42016)).loc (tV d L) ↦[Finset.univ]{fullShare} f) ∗ (inLoc d ↦[Finset.univ]{q} A) ∗ semVal (tV d L, .dma sem) 0 ∗ ow d L O W ∗ R)
        ⊢ wpT d L (k ⟨⟩) Q) :
    iprop(fly d L arg sem q A n ∗ ow d L O W ∗ R)
      ⊢ wpT d L (Prog.lift (.waitDma2 sem srcw arg h1 h2) >>= k) Q := by
  unfold wpT at H ⊢
  unfold fly ow
  iintro ⟨Hfly, ⟨⟨%W', %hW, HO⟩, #Hm⟩, HR⟩
  iapply (Transfers.wp_waitLocalO EC 𝒱₀ (tV d L) none (srcw := srcw) (dstw := arg) (hsrc := h1) (hdst := h2) (k := k) (Q := Q) none (N := arg.view.dmaCredit) rfl) $$ [Hfly HO]
  · isplitl [Hfly]
    · iexact Hfly
    isplitl [HO]
    · iexact HO
    · iapply (Transfers.MayWaits.elim (SemLoc.dma sem)) $$ Hm
  unfold bufHeld
  iintro ⟨⟨⟨%f, %hf, Hb⟩, HA⟩, Hs, HO⟩
  iapply (H f hf)
  isplitl [Hb]
  · iexact Hb
  isplitl [HA]
  · iexact HA
  isplitl [Hs]
  · iexact Hs
  isplitl [HO]
  · unfold ow
    isplitl [HO]
    · iexists (insert (SemLoc.dma sem, none) W')
      isplitr
      · ipureintro
        intro p hp
        rcases Finset.mem_insert.1 hp with rfl | hp
        · exact .inr rfl
        · exact hW p hp
      · iexact HO
    · iexact Hm
  · iexact HR

/-- A loop. -/
theorem step_for {α σ : Type} {P : sProp 𝕄} {Q : α → sProp 𝕄} {l : Scf.Loop 32} {hok : l.OK} {init : σ}
    {body : Fin l.trips → σ → Prog (TpuEff nD τ sig (Elt F) Λ₀ (tV d L).2) σ} {kk : σ → Prog (TpuEff nD τ sig (Elt F) Λ₀ (tV d L).2) α}
    (I : ℕ → sProp 𝕄) {n : ℕ} (hn : l.trips = n) (h0 : P ⊢ I 0) (hb : ∀ (k : Fin l.trips) acc, k.val < n → I k.val ⊢ wpT d L (body k acc) fun _ => I (k.val + 1))
    (hk : ∀ acc, I n ⊢ wpT d L (kk acc) Q) : P ⊢ wpT d L (Scf.Loop.for l hok init body >>= kk) Q := by
  subst hn
  unfold wpT at hb hk ⊢
  iintro HP
  ihave HI := h0 $$ HP
  iapply (Scf.wp_for_bind frame (wpE (defs₀ (F := F)) 𝒱₀ (tV d L) none) Set.univ l.lb l.ub l.st hok init body (fun i _ => I i) (fun k acc => hb k acc k.isLt)) $$ HI
  iintro %acc HI
  iapply (hk acc) $$ HI

/-- What is held, put in another order. -/
theorem step_perm {α : Type} {P P' : sProp 𝕄} {Q : α → sProp 𝕄} {p : Prog (TpuEff nD τ sig (Elt F) Λ₀ (tV d L).2) α} (h : P ⊢ P') (H : P' ⊢ wpT d L p Q) :
    P ⊢ wpT d L p Q := h.trans H

end Cert.Proof.K

end
-- ==== Proof.Windows.lean ====
/-
  The thirteen means of a block, a window of the text at a time.
-/
module

public import proofs.«01_k».proof.Proof.Dma

@[expose] public section

noncomputable section

namespace Cert.Proof.K

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The flat result, -/
abbrev outV : Memref sig .scVector .hbm S638976 .f32 := Memref.whole main_v1_scv
/-- the buffer of the even blocks, -/
abbrev bA : Memref sig .scVector .vmem S42016 .f32 := Memref.whole cc0_scratch0
/-- of the odd ones, -/
abbrev bB : Memref sig .scVector .vmem S42016 .f32 := Memref.whole cc0_scratch1
/-- of the results, as a tile names them, -/
abbrev bO : Memref sig .scVector .vmem S19968 .f32 := Memref.whole cc0_scratch2
/-- and the semaphores of the two buffers' copies. -/
abbrev sA : DmaSem sig := cc0_scratch3.sem
@[inherit_doc sA] abbrev sB : DmaSem sig := cc0_scratch4.sem

/-- A buffer's elements. -/
abbrev bPts (arg : Memref sig .scVector .vmem S42016 .f32) (f : Buf (Elt F) ((arg.access (.whole S42016)).loc (tV d L))) : sProp 𝕄 :=
  ((arg.access (.whole S42016)).loc (tV d L) ↦[Finset.univ]{fullShare} f)

/-- What goes beside a buffer when its copy has landed: the share lent to it and its semaphore at zero. -/
abbrev rest (sem : DmaSem sig) (q : PosShare TreeShare) (A : S43024384.Idx → F .f32) : sProp 𝕄 :=
  iprop((inLoc d ↦[Finset.univ]{q} A) ∗ semVal (tV d L, .dma sem) 0)

/-- A mean is the word its place in the result asks for. -/
theorem mu_val {A : S43024384.Idx → F .f32} {b₀ b m : ℕ} (hm : m < 13) (x : S16.Idx) :
    gat (blk A (b₀ + b)) (addi rowOff (broadcast S16 (BitVec.ofNat 32 (2 * m)))) x = outWord A b₀ (624 * b + 39 * (x 0).val + m) := by
  have h : (x 0).val < 16 := (x 0).isLt
  unfold outWord
  rw [show (624 * b + 39 * (x 0).val + m) / 624 = b by omega, show (624 * b + 39 * (x 0).val + m) % 624 % 39 = m by omega,
    show (624 * b + 39 * (x 0).val + m) % 624 / 39 = (x 0).val by omega]
  unfold colVec
  rw [if_pos hm]
  refine congrArg _ (funext fun (a : Fin 1) => ?_)
  obtain rfl : a = 0 := Subsingleton.elim _ _
  exact Fin.ext (Nat.mod_eq_of_lt h).symm

/-- So is a class. -/
theorem cat_val {A : S43024384.Idx → F .f32} {b₀ b w : ℕ} (hw : w < 26) (x : S16.Idx) :
    catVec (blk A (b₀ + b)) (Scf.iv 0#32 1#32 w) x = outWord A b₀ (624 * b + 39 * (x 0).val + (13 + w)) := by
  have h : (x 0).val < 16 := (x 0).isLt
  unfold outWord
  rw [show (624 * b + 39 * (x 0).val + (13 + w)) / 624 = b by omega, show (624 * b + 39 * (x 0).val + (13 + w)) % 624 % 39 = 13 + w by omega,
    show (624 * b + 39 * (x 0).val + (13 + w)) % 624 / 39 = (x 0).val by omega]
  unfold colVec
  rw [if_neg (by omega), show BitVec.ofNat 32 (13 + w - 13) = Scf.iv 0#32 1#32 w from ?_]
  · refine congrArg _ (funext fun (a : Fin 1) => ?_)
    obtain rfl : a = 0 := Subsingleton.elim _ _
    exact Fin.ext (Nat.mod_eq_of_lt h).symm
  · apply BitVec.eq_of_toNat_eq
    rw [iv_toNat w (by omega), BitVec.toNat_ofNat]; omega

/-- Where an even block's rows start in the output buffer. -/
theorem outOff_even (k : ℕ) (hk : k < 16) :
    addi (broadcast S16 (Scalar.muli (Scalar.muli (Scalar.muli 2#32 (Scf.iv 0#32 1#32 k)) 16#32) 39#32)) (muli lanes (broadcast S16 39#32)) = outOff (2 * k) := by
  unfold outOff
  congr 2
  apply BitVec.eq_of_toNat_eq
  show (2#32 * Scf.iv 0#32 1#32 k * 16#32 * 39#32).toNat = _
  rw [BitVec.toNat_mul, BitVec.toNat_mul, BitVec.toNat_mul, iv_toNat k (by omega), BitVec.toNat_ofNat, BitVec.toNat_ofNat, BitVec.toNat_ofNat, BitVec.toNat_ofNat]; omega

/-- And an odd one's. -/
theorem outOff_odd (k : ℕ) (hk : k < 16) :
    addi (broadcast S16 (Scalar.muli (Scalar.muli (Scalar.addi (Scalar.muli 2#32 (Scf.iv 0#32 1#32 k)) 1#32) 16#32) 39#32)) (muli lanes (broadcast S16 39#32)) = outOff (2 * k + 1) := by
  unfold outOff
  congr 2
  apply BitVec.eq_of_toNat_eq
  show ((2#32 * Scf.iv 0#32 1#32 k + 1#32) * 16#32 * 39#32).toNat = _
  rw [BitVec.toNat_mul, BitVec.toNat_mul, BitVec.toNat_add, BitVec.toNat_mul, iv_toNat k (by omega), BitVec.toNat_ofNat, BitVec.toNat_ofNat, BitVec.toNat_ofNat, BitVec.toNat_ofNat, BitVec.toNat_ofNat]; omega

/-- A scatter of a mean. -/
theorem step_mu {α : Type} {Q : α → sProp 𝕄} {P R : sProp 𝕄} {A : S43024384.Idx → F .f32} {b₀ b m : ℕ} (hb : b < 32) (hm : m < 13)
    {idx : IVec S16 32} (hi : idx = outIx b m) {v : Vec F S16 .f32} (hv : v = gat (blk A (b₀ + b)) (addi rowOff (broadcast S16 (BitVec.ofNat 32 (2 * m)))))
    {h : ∀ a x, ((![idx] : Fin 1 → IVec S16 32) a x).toNat < S19968.size a} {hs : (bO.access (.whole S19968)).Stores Finset.univ}
    {k : PUnit → Prog (TpuEff nD τ sig (Elt F) Λ₀ (tV d L).2) α}
    (H : iprop(P ∗ outHeld d L (outWord A b₀) b (m + 1) ∗ R) ⊢ wpT d L (k ⟨⟩) Q) :
    iprop(P ∗ outHeld d L (outWord A b₀) b m ∗ R) ⊢ wpT d L (SparseCore.vectorStoreIdx bO ![idx] v (fun _ => 1#1) false h hs >>= k) Q := by
  subst hv
  exact step_scatter d L hb (by omega) hi (mu_val hm) H

/-! ## Between the windows -/

/-- The number of a tile: its run of thirty-two blocks, of the input as of the result. -/
def wid : ℕ := (L 1).val * 2 + (L 0).val

/-- There are thirty-two tiles. -/
theorem wid_lt : wid L < 32 := by
  have h0 : (L 0).val < 2 := (L 0).isLt
  have h1 : (L 1).val < 16 := (L 1).isLt
  unfold wid; omega

/-- A buffer's stream before block `n` of the tile's run: the block on its way, or the run at its end. -/
def strm (arg : Memref sig .scVector .vmem S42016 .f32) (sem : DmaSem sig) (q : PosShare TreeShare) (A : S43024384.Idx → F .f32) (b₀ n : ℕ) : sProp 𝕄 :=
  if n < 32 then fly d L arg sem q A (b₀ + n) else iprop((∃ f, bPts d L arg f) ∗ rest d L sem q A)

/-- With a block left, the stream is a block on its way, -/
theorem strm_of_fly {arg : Memref sig .scVector .vmem S42016 .f32} {sem : DmaSem sig} {q : PosShare TreeShare} {A : S43024384.Idx → F .f32} {b₀ : ℕ} (n : ℕ) (h : n < 32) :
    fly d L arg sem q A (b₀ + n) ⊢ strm d L arg sem q A b₀ n := by
  unfold strm; rw [if_pos h]

/-- and the other way round. -/
theorem strm_fly {arg : Memref sig .scVector .vmem S42016 .f32} {sem : DmaSem sig} {q : PosShare TreeShare} {A : S43024384.Idx → F .f32} {b₀ : ℕ} (n : ℕ) (h : n < 32) :
    strm d L arg sem q A b₀ n ⊢ fly d L arg sem q A (b₀ + n) := by
  unfold strm; rw [if_pos h]

/-- With none left, it is the run at its end, -/
theorem strm_of_rest {arg : Memref sig .scVector .vmem S42016 .f32} {sem : DmaSem sig} {q : PosShare TreeShare} {A : S43024384.Idx → F .f32} {b₀ : ℕ} (n : ℕ) (h : ¬ n < 32) :
    iprop((∃ f, bPts d L arg f) ∗ rest d L sem q A) ⊢ strm d L arg sem q A b₀ n := by
  unfold strm; rw [if_neg h]

/-- and the other way round. -/
theorem strm_rest {arg : Memref sig .scVector .vmem S42016 .f32} {sem : DmaSem sig} {q : PosShare TreeShare} {A : S43024384.Idx → F .f32} {b₀ : ℕ} (n : ℕ) (h : ¬ n < 32) :
    strm d L arg sem q A b₀ n ⊢ iprop((∃ f, bPts d L arg f) ∗ rest d L sem q A) := by
  unfold strm; rw [if_neg h]

/-- A block's last column done, the next block's first is next. -/
theorem outHeld_next {E : ℕ → F .f32} {b : ℕ} : outHeld d L E b 39 ⊢ outHeld d L E (b + 1) 0 := by
  unfold outHeld
  iintro ⟨%O, %hO, HO⟩
  iexists O
  isplitr
  · ipureintro
    intro p hp
    refine hO p ?_
    have : (p 0).val % 624 % 39 < 39 := Nat.mod_lt _ (by decide)
    omega
  · iexact HO

/-- The positions that a class is written at, -/
theorem cat_ix {b w : ℕ} (hb : b < 32) (hw : w < 26) :
    addi (addi (outOff b) (broadcast S16 13#32)) (broadcast S16 (Scf.iv 0#32 1#32 w)) = outIx b (13 + w) := by
  funext x
  apply BitVec.eq_of_toNat_eq
  have h : (x 0).val < 16 := (x 0).isLt
  rw [outIx_toNat hb (by omega)]
  show (outIx b 13 x + Scf.iv 0#32 1#32 w).toNat = _
  rw [BitVec.toNat_add, outIx_toNat hb (by omega), iv_toNat w (by omega)]; omega

/-- and that they are inside the output buffer. -/
theorem cat_inb {b w : ℕ} (hb : b < 32) (hw : w < 26) :
    ∀ a x, ((![addi (addi (outOff b) (broadcast S16 13#32)) (broadcast S16 (Scf.iv 0#32 1#32 w))] : Fin 1 → IVec S16 32) a x).toNat < S19968.size a := by
  rw [cat_ix hb hw]; exact outIx_inb hb (by omega)

/-- Another even block is on its way after trip `k` unless it is the last, -/
theorem cond1_iff : ∀ k : Fin k0_t1_loop.trips, k0_cond1 k = 1#1 ↔ k.val < 15 := by decide +kernel
/-- and another odd one. -/
theorem cond2_iff : ∀ k : Fin k0_t1_loop.trips, k0_cond2 k = 1#1 ↔ k.val < 15 := by decide +kernel

/-- The offset of the next even block's copy -/
theorem off3_blk (k : Fin k0_t1_loop.trips) {b₀ b : ℕ} (hb₀ : b₀ = 32 * wid L) (hb : 2 * k.val = b) : k0_off3 L k = ![42016 * (b₀ + (b + 2))] := by
  rw [k0_off3_eq]; unfold wid at hb₀; congr 1; omega

/-- and of the next odd one's. -/
theorem off5_blk (k : Fin k0_t1_loop.trips) {b₀ b : ℕ} (hb₀ : b₀ = 32 * wid L) (hb : 2 * k.val + 1 = b) : k0_off5 L k = ![42016 * (b₀ + (b + 2))] := by
  rw [k0_off5_eq]; unfold wid at hb₀; congr 1; omega

/-- A copy's landing in the whole of a buffer reads back. -/
theorem write_bA (f : Buf (Elt F) (bA.view.loc (tV d L))) (w : S42016.Idx → Elt F .f32) :
    (bA.access (.whole S42016)).read (Elt F) (bA.view.write (Elt F) f w Finset.univ) = w := by
  refine (Memref.read_access_whole (Elt F) cc0_scratch0 _).trans ?_
  exact View.write_whole_univ _ _ _

@[inherit_doc write_bA] theorem write_bB (f : Buf (Elt F) (bB.view.loc (tV d L))) (w : S42016.Idx → Elt F .f32) :
    (bB.access (.whole S42016)).read (Elt F) (bB.view.write (Elt F) f w Finset.univ) = w := by
  refine (Memref.read_access_whole (Elt F) cc0_scratch1 _).trans ?_
  exact View.write_whole_univ _ _ _

/-- The odd block's group is the even block's text with the buffers exchanged. -/
theorem part28_eq (L : grid0.Coords)
    (arg2 : Memref sig .scVector .hbm S43024384 .f32) (harg2 : arg2.IsWhole) (arg3 : Memref sig .scVector .hbm S638976 .f32) (harg3 : arg3.IsWhole)
    (arg4 : Memref sig .scVector .vmem S42016 .f32) (harg4 : arg4.IsWhole) (arg5 : Memref sig .scVector .vmem S42016 .f32) (harg5 : arg5.IsWhole)
    (arg6 : Memref sig .scVector .vmem S19968 .f32) (harg6 : arg6.IsWhole) (arg7 arg8 v20 : DmaSems sig S_) (v5 v32 : IVec S16 32) (k : Fin k0_t3_loop.trips) :
  k0_part28 (F := F) L arg2 harg2 arg3 harg3 arg4 harg4 arg5 harg5 arg6 harg6 arg7 arg8 v20 v5 v32 0#32 1#32 k =
  k0_part14 (F := F) L arg2 harg2 arg3 harg3 arg5 harg5 arg4 harg4 arg6 harg6 arg7 arg8 v20 v5 v32 0#32 1#32 k := rfl

attribute [local irreducible] wp SparseCore.vectorLoadIdx SparseCore.vectorStoreIdx Prog.lift

section
variable {A : S43024384.Idx → F .f32} {b₀ : ℕ} {q : PosShare TreeShare} {O : CellTallies nD τ sig (HIx 1)} {W : Waits sig (HIx 1)}

/-- The first window of a trip: the even block's wait and its first means. -/
theorem win29 (v2 : BitVec 32) (k : Fin k0_t1_loop.trips) (hk : k.val < 16)
    {R : sProp 𝕄} {Q : (Σ' (_ : BitVec 32) (_ : IVec S16 32) (_ : Vec F S16 .f32) (v52 : IVec S16 32), k0_chk8 v52) → sProp 𝕄}
    (H : ∀ f, (bA.access (.whole S42016)).read (Elt F) f = blk A (b₀ + 2 * k.val) → ∀ h,
      iprop(bPts d L bA f ∗ outHeld d L (outWord A b₀) (2 * k.val) 3 ∗ rest d L sA q A ∗ ow d L O W ∗ R)
        ⊢ Q ⟨Scalar.muli 2#32 (Scf.iv 0#32 1#32 k.val), outOff (2 * k.val), gat (blk A (b₀ + 2 * k.val)) (addi rowOff (broadcast S16 6#32)), addi (outOff (2 * k.val)) (broadcast S16 3#32), h⟩) :
    iprop(fly d L bA sA q A (b₀ + 2 * k.val) ∗ ow d L O W ∗ outHeld d L (outWord A b₀) (2 * k.val) 0 ∗ R)
      ⊢ wpT d L (k0_part29 L inV (Memref.isWhole_whole _) outV (Memref.isWhole_whole _) bA (Memref.isWhole_whole _) bB (Memref.isWhole_whole _) bO (Memref.isWhole_whole _)
          cc0_scratch3 cc0_scratch4 cc0_scoped0 v2 lanes rowOff 0#32 1#32 k) Q := by
  have hb : 2 * k.val < 32 := by omega
  have hM := mu_inb
  have hO : ∀ m : ℕ, m < 39 → ∀ a x, ((![addi (outOff (2 * k.val)) (broadcast S16 (BitVec.ofNat 32 m))] : Fin 1 → IVec S16 32) a x).toNat < S19968.size a := fun m hm => outIx_inb hb hm
  unfold k0_part29
  dsimp only
  generalize hv : addi (broadcast S16 (Scalar.muli (Scalar.muli (Scalar.muli 2#32 (Scf.iv 0#32 1#32 k.val)) 16#32) 39#32)) (muli lanes (broadcast S16 39#32)) = v32
  obtain rfl : v32 = outOff (2 * k.val) := hv.symm.trans (outOff_even k.val hk)
  refine step_wait d L bA fun f hB => ?_
  refine step_perm d L (P' := iprop(bPts d L bA f ∗ outHeld d L (outWord A b₀) (2 * k.val) 0 ∗ rest d L sA q A ∗ ow d L O W ∗ R)) ?_ ?_
  · iintro ⟨Hb, HA, Hs, Ho, HO, HR⟩
    isplitl [Hb]
    · iexact Hb
    isplitl [HO]
    · iexact HO
    isplitl [HA Hs]
    · isplitl [HA]
      · iexact HA
      · iexact Hs
    isplitl [Ho]
    · iexact Ho
    · iexact HR
  iterate 3
    refine step_assume ?_ ?_
    · exact hM _ (by decide)
    refine step_gather d L bA hB ?_
    refine step_assume ?_ ?_
    · exact hO _ (by decide)
    refine step_mu d L hb ?_ ?_ ?_ ?_
    · decide
    · exact rfl
    · exact rfl
  refine step_assume ?_ ?_
  · exact hM _ (by decide)
  refine step_gather d L bA hB ?_
  refine step_assume ?_ ?_
  · exact hO _ (by decide)
  exact step_pure (H f hB _)

/-- The second window. -/
theorem win30 {b : ℕ} (hb : b < 32) {f : Buf (Elt F) ((bA.access (.whole S42016)).loc (tV d L))} (hB : (bA.access (.whole S42016)).read (Elt F) f = blk A (b₀ + b))
    {h8 : k0_chk8 (addi (outOff b) (broadcast S16 3#32))}
    {R : sProp 𝕄} {Q : (Σ' (_ : Vec F S16 .f32) (v82 : IVec S16 32), k0_chk20 v82) → sProp 𝕄}
    (H : ∀ h, iprop(bPts d L bA f ∗ outHeld d L (outWord A b₀) b 9 ∗ R)
        ⊢ Q ⟨gat (blk A (b₀ + b)) (addi rowOff (broadcast S16 18#32)), addi (outOff b) (broadcast S16 9#32), h⟩) :
    iprop(bPts d L bA f ∗ outHeld d L (outWord A b₀) b 3 ∗ R)
      ⊢ wpT d L (k0_part30 L inV (Memref.isWhole_whole _) outV (Memref.isWhole_whole _) bA (Memref.isWhole_whole _) bB (Memref.isWhole_whole _) bO (Memref.isWhole_whole _)
          cc0_scratch3 cc0_scratch4 cc0_scoped0 rowOff (outOff b) (gat (blk A (b₀ + b)) (addi rowOff (broadcast S16 6#32))) (addi (outOff b) (broadcast S16 3#32)) h8) Q := by
  have hO : ∀ m : ℕ, m < 39 → ∀ a x, ((![addi (outOff b) (broadcast S16 (BitVec.ofNat 32 m))] : Fin 1 → IVec S16 32) a x).toNat < S19968.size a := fun m hm => outIx_inb hb hm
  have hM := mu_inb
  unfold k0_part30
  dsimp only
  refine step_mu d L hb ?_ ?_ ?_ ?_
  · decide
  · exact rfl
  · exact rfl
  iterate 5
    refine step_assume ?_ ?_
    · exact hM _ (by decide)
    refine step_gather d L bA hB ?_
    refine step_assume ?_ ?_
    · exact hO _ (by decide)
    refine step_mu d L hb ?_ ?_ ?_ ?_
    · decide
    · exact rfl
    · exact rfl
  refine step_assume ?_ ?_
  · exact hM _ (by decide)
  refine step_gather d L bA hB ?_
  refine step_assume ?_ ?_
  · exact hO _ (by decide)
  exact step_pure (H _)

/-- The third window: the last means of the even block, its classes, the next even block's copy started, the odd
    block's awaited. -/
theorem win31 (v2 v20 : BitVec 32) (k : Fin k0_t1_loop.trips) {b : ℕ} (hbk : 2 * k.val = b) (hb : b < 32) (hb₀ : b₀ = 32 * wid L) {q' : PosShare TreeShare} {f : Buf (Elt F) ((bA.access (.whole S42016)).loc (tV d L))} (hB : (bA.access (.whole S42016)).read (Elt F) f = blk A (b₀ + b))
    {h20 : k0_chk20 (addi (outOff b) (broadcast S16 9#32))}
    {R : sProp 𝕄} {Q : (Σ' (_ : BitVec 32), BitVec 32) → sProp 𝕄}
    (H : ∀ f, (bB.access (.whole S42016)).read (Elt F) f = blk A (b₀ + (b + 1)) →
      iprop(bPts d L bB f ∗ outHeld d L (outWord A b₀) (b + 1) 0 ∗ rest d L sB q' A ∗ strm d L bA sA q A b₀ (b + 2) ∗ ow d L O W ∗ R) ⊢ Q ⟨Scalar.addi v20 1#32, 16#32⟩) :
    iprop(bPts d L bA f ∗ outHeld d L (outWord A b₀) b 9 ∗ rest d L sA q A ∗ fly d L bB sB q' A (b₀ + (b + 1)) ∗ ow d L O W ∗ R)
      ⊢ wpT d L (k0_part31 L inV (Memref.isWhole_whole _) outV (Memref.isWhole_whole _) bA (Memref.isWhole_whole _) bB (Memref.isWhole_whole _) bO (Memref.isWhole_whole _)
          cc0_scratch3 cc0_scratch4 cc0_scoped0 v2 rowOff k v20 (outOff b) (gat (blk A (b₀ + b)) (addi rowOff (broadcast S16 18#32))) (addi (outOff b) (broadcast S16 9#32)) h20) Q := by
  have hO : ∀ m : ℕ, m < 39 → ∀ a x, ((![addi (outOff b) (broadcast S16 (BitVec.ofNat 32 m))] : Fin 1 → IVec S16 32) a x).toNat < S19968.size a := fun m hm => outIx_inb hb hm
  have hM := mu_inb
  unfold k0_part31
  dsimp only
  refine step_mu d L hb ?_ ?_ ?_ ?_
  · decide
  · exact rfl
  · exact rfl
  iterate 3
    refine step_assume ?_ ?_
    · exact hM _ (by decide)
    refine step_gather d L bA hB ?_
    refine step_assume ?_ ?_
    · exact hO _ (by decide)
    refine step_mu d L hb ?_ ?_ ?_ ?_
    · decide
    · exact rfl
    · exact rfl
  refine step_for d L (fun w => iprop(bPts d L bA f ∗ outHeld d L (outWord A b₀) b (13 + w) ∗ (rest d L sA q A ∗ fly d L bB sB q' A (b₀ + (b + 1)) ∗ ow d L O W ∗ R))) (n := 26) (by decide) (Entails.rfl) ?_ ?_
  · intro w _ hw
    refine step_bind (trip_part14 d L _ _ _ _ _ _ _ _ _ _ _ _ _ w b (by rw [iv_toNat w.val (by omega)]; exact hw) ?_)
    rw [hB]
    dsimp only
    refine step_assume ?_ ?_
    · exact cat_inb hb hw
    refine step_scatter d L hb (by omega) (cat_ix hb hw) (cat_val hw) ?_
    exact step_pure Entails.rfl
  · intro _
    by_cases hc : k0_cond1 k = 1#1
    · have hk : k.val < 15 := (cond1_iff k).1 hc
      rw [dif_pos hc]
      refine step_perm d L (P' := iprop((inLoc d ↦[Finset.univ]{q} A) ∗ bPts d L bA f ∗ semVal (tV d L, .dma sA) 0
        ∗ (fly d L bB sB q' A (b₀ + (b + 1)) ∗ ow d L O W ∗ outHeld d L (outWord A b₀) b 39 ∗ R))) ?_ ?_
      · iintro ⟨Hb, Ho, ⟨HA, Hs⟩, Hf, Hw, HR⟩
        isplitl [HA]; · iexact HA
        isplitl [Hb]; · iexact Hb
        isplitl [Hs]; · iexact Hs
        isplitl [Hf]; · iexact Hf
        isplitl [Hw]; · iexact Hw
        isplitl [Ho]
        · iexact Ho
        · iexact HR
      refine step_dma d L bA (write_bA d L) A (b₀ + (b + 2)) (by have := wid_lt L; omega) (off3_blk L k hb₀ hbk) ?_
      refine step_perm d L (P' := iprop(fly d L bB sB q' A (b₀ + (b + 1)) ∗ ow d L O W ∗ (fly d L bA sA q A (b₀ + (b + 2)) ∗ outHeld d L (outWord A b₀) b 39 ∗ R))) ?_ ?_
      · iintro ⟨Hg, Hf, Hw, Ho, HR⟩
        isplitl [Hf]; · iexact Hf
        isplitl [Hw]; · iexact Hw
        isplitl [Hg]; · iexact Hg
        isplitl [Ho]
        · iexact Ho
        · iexact HR
      refine step_wait d L bB fun f' hf' => ?_
      refine step_pure (BIBase.Entails.trans ?_ (H f' hf'))
      iintro ⟨Hb, HA, Hs, Hw, Hg, Ho, HR⟩
      isplitl [Hb]; · iexact Hb
      isplitl [Ho]; · iapply (outHeld_next d L) $$ Ho
      isplitl [HA Hs]
      · isplitl [HA]
        · iexact HA
        · iexact Hs
      isplitl [Hg]
      · iapply (strm_of_fly d L _ (by omega)) $$ Hg
      isplitl [Hw]
      · iexact Hw
      · iexact HR
    · have hk : ¬ k.val < 15 := fun h => hc ((cond1_iff k).2 h)
      rw [dif_neg hc]
      refine step_perm d L (P' := iprop(fly d L bB sB q' A (b₀ + (b + 1)) ∗ ow d L O W ∗ (bPts d L bA f ∗ rest d L sA q A ∗ outHeld d L (outWord A b₀) b 39 ∗ R))) ?_ ?_
      · iintro ⟨Hb, Ho, Hr, Hf, Hw, HR⟩
        isplitl [Hf]; · iexact Hf
        isplitl [Hw]; · iexact Hw
        isplitl [Hb]; · iexact Hb
        isplitl [Hr]; · iexact Hr
        isplitl [Ho]
        · iexact Ho
        · iexact HR
      refine step_wait d L bB fun f' hf' => ?_
      refine step_pure (BIBase.Entails.trans ?_ (H f' hf'))
      iintro ⟨Hb, HA, Hs, Hw, Hg, Hr, Ho, HR⟩
      isplitl [Hb]; · iexact Hb
      isplitl [Ho]; · iapply (outHeld_next d L) $$ Ho
      isplitl [HA Hs]
      · isplitl [HA]
        · iexact HA
        · iexact Hs
      isplitl [Hg Hr]
      · iapply (strm_of_rest d L _ (by omega)) $$ [Hg Hr]
        isplitl [Hg]
        · iexists f; iexact Hg
        · iexact Hr
      isplitl [Hw]
      · iexact Hw
      · iexact HR

/-- The fourth window: the odd block's first means. -/
theorem win32 (k : ℕ) (hk : k < 16) {f : Buf (Elt F) ((bB.access (.whole S42016)).loc (tV d L))} (hB : (bB.access (.whole S42016)).read (Elt F) f = blk A (b₀ + (2 * k + 1)))
    {R : sProp 𝕄} {Q : (Σ' (_ : IVec S16 32), IVec S16 32) → sProp 𝕄}
    (H : iprop(bPts d L bB f ∗ outHeld d L (outWord A b₀) (2 * k + 1) 5 ∗ R) ⊢ Q ⟨outOff (2 * k + 1), broadcast S16 10#32⟩) :
    iprop(bPts d L bB f ∗ outHeld d L (outWord A b₀) (2 * k + 1) 0 ∗ R)
      ⊢ wpT d L (k0_part32 L inV (Memref.isWhole_whole _) outV (Memref.isWhole_whole _) bA (Memref.isWhole_whole _) bB (Memref.isWhole_whole _) bO (Memref.isWhole_whole _)
          cc0_scratch3 cc0_scratch4 cc0_scoped0 lanes rowOff (Scalar.addi (Scalar.muli 2#32 (Scf.iv 0#32 1#32 k)) 1#32) 16#32) Q := by
  generalize hb' : 2 * k + 1 = b at hB H ⊢
  have hb : b < 32 := by omega
  have hO : ∀ m : ℕ, m < 39 → ∀ a x, ((![addi (outOff b) (broadcast S16 (BitVec.ofNat 32 m))] : Fin 1 → IVec S16 32) a x).toNat < S19968.size a := fun m hm => outIx_inb hb hm
  have hM := mu_inb
  unfold k0_part32
  dsimp only
  generalize hv : addi (broadcast S16 (Scalar.muli (Scalar.muli (Scalar.addi (Scalar.muli 2#32 (Scf.iv 0#32 1#32 k)) 1#32) 16#32) 39#32)) (muli lanes (broadcast S16 39#32)) = v116
  obtain rfl : v116 = outOff b := hv.symm.trans ((outOff_odd k hk).trans (congrArg outOff hb'))
  iterate 5
    refine step_assume ?_ ?_
    · exact hM _ (by decide)
    refine step_gather d L bB hB ?_
    refine step_assume ?_ ?_
    · exact hO _ (by decide)
    refine step_mu d L hb ?_ ?_ ?_ ?_
    · decide
    · exact rfl
    · exact rfl
  exact step_pure H

/-- The fifth. -/
theorem win33 {b : ℕ} (hb : b < 32) {f : Buf (Elt F) ((bB.access (.whole S42016)).loc (tV d L))} (hB : (bB.access (.whole S42016)).read (Elt F) f = blk A (b₀ + b))
    {R : sProp 𝕄} {Q : IVec S16 32 → sProp 𝕄}
    (H : iprop(bPts d L bB f ∗ outHeld d L (outWord A b₀) b 11 ∗ R) ⊢ Q (broadcast S16 22#32)) :
    iprop(bPts d L bB f ∗ outHeld d L (outWord A b₀) b 5 ∗ R)
      ⊢ wpT d L (k0_part33 L inV (Memref.isWhole_whole _) outV (Memref.isWhole_whole _) bA (Memref.isWhole_whole _) bB (Memref.isWhole_whole _) bO (Memref.isWhole_whole _)
          cc0_scratch3 cc0_scratch4 cc0_scoped0 rowOff (outOff b) (broadcast S16 10#32)) Q := by
  have hO : ∀ m : ℕ, m < 39 → ∀ a x, ((![addi (outOff b) (broadcast S16 (BitVec.ofNat 32 m))] : Fin 1 → IVec S16 32) a x).toNat < S19968.size a := fun m hm => outIx_inb hb hm
  have hM := mu_inb
  unfold k0_part33
  dsimp only
  iterate 6
    refine step_assume ?_ ?_
    · exact hM _ (by decide)
    refine step_gather d L bB hB ?_
    refine step_assume ?_ ?_
    · exact hO _ (by decide)
    refine step_mu d L hb ?_ ?_ ?_ ?_
    · decide
    · exact rfl
    · exact rfl
  exact step_pure H

end

end Cert.Proof.K

end
-- ==== Proof.Tile.lean ====
/-
  A tile's whole program: the two first copies, the sixteen trips over a pair of blocks, the copy of the results out.
-/
module

public import proofs.«01_k».proof.Proof.Windows

@[expose] public section

noncomputable section

namespace Cert.Proof.K

open Cert.KernelIdeal Cert.KernelIdeal.Gen

open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (L : grid0.Coords)

/-- The semaphore of the copy out. -/
abbrev sO : DmaSem sig := cc0_scoped0.sem

/-- A tile's part of the flat result, as the tile names it, -/
abbrev outPart : Memref sig .scVector .hbm S19968 .f32 := outV.slice (Rect.unit (s := S638976) (k0_off6 L) S19968.size (k0_off6_inb L)) (fun _ => rfl)
/-- and its positions. -/
abbrev outSet : Finset S638976.Idx := (outPart L).view.set

/-- Where position `y` of a tile's part lies in the flat result. -/
theorem outPart_emb (y : S19968.Idx) : (((outPart L).view.emb y : S638976.Idx) 0).val = 19968 * wid L + (y 0).val := by
  have e : k0_off6 L 0 = 39936 * (L 1).val + 19968 * (L 0).val := congrFun (k0_off6_eq L) 0
  show k0_off6 L 0 + 1 * (y 0).val = _
  rw [e]; unfold wid; omega

/-- A tile's results are its part of the flat result. -/
theorem out_lands {A : S43024384.Idx → F .f32} {O : S19968.Idx → F .f32} (hO : ∀ p, O p = outWord A (32 * wid L) (p 0).val) (g : S638976.Idx → F .f32) :
    ∀ i ∈ outSet L, ((outPart L).view.write (Elt F) g (ReadAs.same.apply (bO.view.read (Elt F) O)) Finset.univ : S638976.Idx → F .f32) i = OUT A i := by
  intro i hi
  obtain ⟨y, -, rfl⟩ := Finset.mem_map.1 (show i ∈ Finset.univ.map (outPart L).view.emb from hi)
  refine (View.write_emb_of_mem _ _ (Finset.mem_univ _)).trans ((cast_eq _ _).trans ?_)
  refine (show (bO.view.read (Elt F) O : S19968.Idx → F .f32) y = O y from ?_).trans ?_
  · exact (View.read_apply _ _).trans (cast_eq _ _)
  rw [hO]
  unfold OUT outWord
  rw [outPart_emb L y]
  have hy : (y 0).val < 19968 := (y 0).isLt
  rw [show 0 + (19968 * wid L + (y 0).val) / 624 = 32 * wid L + (y 0).val / 624 by omega,
    show (19968 * wid L + (y 0).val) % 624 = (y 0).val % 624 by omega]

/-- What a tile is handed: two shares of the flat input, its buffers at anything, its semaphores at zero, its part of
    the flat result. -/
def tileIn (qA qB : PosShare TreeShare) (A : S43024384.Idx → F .f32) (O : CellTallies nD τ sig (HIx 1)) (W : Waits sig (HIx 1)) (g : S638976.Idx → F .f32) : sProp 𝕄 :=
  iprop(((∃ f, bPts d L bA f) ∗ rest d L sA qA A) ∗ ((∃ f, bPts d L bB f) ∗ rest d L sB qB A)
    ∗ (∃ f, (tV d L).loc cc0_scratch2 ↦[Finset.univ]{fullShare} f) ∗ semVal (tV d L, .dma sO) 0 ∗ (outLoc d ↦[outSet L]{fullShare} g) ∗ ow d L O W)

/-- What the loop keeps: the two streams, the results so far. -/
def tripInv (qA qB : PosShare TreeShare) (A : S43024384.Idx → F .f32) (O : CellTallies nD τ sig (HIx 1)) (W : Waits sig (HIx 1)) (R : sProp 𝕄) (b₀ i : ℕ) : sProp 𝕄 :=
  iprop(strm d L bA sA qA A b₀ (2 * i) ∗ strm d L bB sB qB A b₀ (2 * i + 1) ∗ outHeld d L (outWord A b₀) (2 * i) 0 ∗ ow d L O W ∗ R)

omit [FloatOps F] in
/-- The output buffer, as the copy out names it. -/
theorem pts_bO (O : S19968.Idx → F .f32) :
    iprop(bO.view.loc (tV d L) ↦[bO.view.set]{fullShare} O) = (iprop((tV d L).loc cc0_scratch2 ↦[Finset.univ]{fullShare} O) : sProp 𝕄) := by
  rw [show bO.view.set = Finset.univ from View.set_whole cc0_scratch2]

/-- The copy of the results out, and its wait. -/
theorem copy_out {b₀ : ℕ} (hb₀ : b₀ = 32 * wid L) (A : S43024384.Idx → F .f32) (qA qB : PosShare TreeShare) (O : CellTallies nD τ sig (HIx 1)) (W : Waits sig (HIx 1)) (g : S638976.Idx → F .f32)
    {h1 : bO.view.WordExact} {h2 : (outPart L).view.WordExact} {h3 : DmaTarget.Typed (nD := nD) (p := (tV d L).2) .vmem (.dma sO) (.here (outPart L))} {h4 h5} :
    iprop(strm d L bA sA qA A b₀ (2 * 16) ∗ strm d L bB sB qB A b₀ (2 * 16 + 1) ∗ outHeld d L (outWord A b₀) (2 * 16) 0 ∗ ow d L O W
        ∗ (semVal (tV d L, .dma sO) 0 ∗ (outLoc d ↦[outSet L]{fullShare} g)))
      ⊢ wpT d L (Prog.lift (.enqueueDma bO (.here (outPart L)) (.dma sO) h1 h2 h3) >>= fun _ =>
          Prog.lift (.waitDma2 sO bO (outPart L) h4 h5) >>= fun _ => pure PUnit.unit) fun _ => tileIn d L qA qB A O W (OUT A) := by
  unfold wpT outHeld
  iintro ⟨HA, HB, ⟨%o, %ho, Hc⟩, Hw, Hs, Ho⟩
  have ho' : ∀ p, o p = outWord A (32 * wid L) (p 0).val := fun p => by
    rw [← hb₀]; exact ho p (.inl (p 0).isLt)
  iapply (Transfers.wp_dmaLocal EC 𝒱₀ (tV d L) none (src := bO) (dst := outPart L) (via := .same) (sm := .dma sO) (fs := o) (fd := g) (q := fullShare) (Sd := outSet L)
    none (outPart L).view.dmaCredit rfl (View.dmaCredit_pos _ (by decide)) (Finset.Subset.refl _)) $$ [Hc Ho Hs]
  · isplitl [Hc]
    · ihave Hc := (Entails.of_eq (pts_bO d L o).symm) $$ Hc
      iexact Hc
    isplitl [Ho]
    · iexact Ho
    · iexact Hs
  iintro Hfly
  ihave Hw := (Entails.of_eq (show ow d L O W = iprop((∃ W', ⌜∀ p ∈ W', p ∈ W ∨ p.2 = none⌝ ∗ owes (tV d L) O W') ∗ Transfers.MayWaits (tV d L) none O) from rfl)) $$ Hw
  icases Hw with ⟨⟨%W', %hW, HO⟩, #Hm⟩
  iapply (Transfers.wp_waitLocalO EC 𝒱₀ (tV d L) none (sem := sO) (srcw := bO) (dstw := outPart L) none (N := (outPart L).view.dmaCredit) rfl) $$ [Hfly HO]
  · isplitl [Hfly]
    · iexact Hfly
    isplitl [HO]
    · iexact HO
    · iapply (Transfers.MayWaits.elim (SemLoc.dma sO)) $$ Hm
  iintro ⟨⟨Ho, Hc⟩, Hs, HO⟩
  rw [show (Prog.ret PUnit.unit : Prog (TpuEff nD τ sig (Elt F) Λ₀ (tV d L).2) PUnit).bind (fun _ => pure PUnit.unit) = Prog.ret PUnit.unit from rfl, wp_ret]
  unfold tileIn
  imodintro
  isplitl [HA]; · iapply (strm_rest d L 32 (by decide)) $$ HA
  isplitl [HB]; · iapply (strm_rest d L 33 (by decide)) $$ HB
  isplitl [Hc]
  · iexists o
    ihave Hc := (Entails.of_eq (pts_bO d L o)) $$ Hc
    iexact Hc
  isplitl [Hs]; · iexact Hs
  isplitl [Ho]
  · ihave Ho := (Entails.of_eq (pointsTo_congr (out_lands L ho' g))) $$ Ho
    iexact Ho
  unfold ow
  isplitl [HO]
  · iexists (insert (SemLoc.dma sO, none) W')
    isplitr
    · ipureintro
      intro p hp
      rcases Finset.mem_insert.1 hp with rfl | hp
      · exact .inr rfl
      · exact hW p hp
    · iexact HO
  · iexact Hm

attribute [local irreducible] wp SparseCore.vectorLoadIdx SparseCore.vectorStoreIdx Prog.lift

/-- The first copy's offset -/
theorem off1_even {b₀ : ℕ} (hb₀ : b₀ = 32 * wid L) : k0_off1 L 0#32 = ![42016 * (b₀ + 0)] := by
  refine (k0_off1_eq L 0).trans ?_
  unfold wid at hb₀; congr 1; show _ + 42016 * 0 = _; omega

/-- and the second's. -/
theorem off1_odd {b₀ : ℕ} (hb₀ : b₀ = 32 * wid L) : k0_off1 L 16#32 = ![42016 * (b₀ + 1)] := by
  refine (k0_off1_eq L 1).trans ?_
  unfold wid at hb₀; congr 1; show _ + 42016 * 1 = _; omega

/-- The output buffer when nothing is in it yet. -/
theorem outHeld_start {E : ℕ → F .f32} : iprop(∃ f, (tV d L).loc cc0_scratch2 ↦[Finset.univ]{fullShare} f) ⊢ outHeld d L E 0 0 := by
  unfold outHeld
  iintro ⟨%f, H⟩
  iexists f
  isplitr
  · ipureintro; intro p hp; omega
  · iexact H

/-- A tile's program leaves its part of the flat result at the kernel's function of the flat input. -/
theorem body_run (qA qB : PosShare TreeShare) (A : S43024384.Idx → F .f32) (O : CellTallies nD τ sig (HIx 1)) (W : Waits sig (HIx 1)) (g : S638976.Idx → F .f32) :
    tileIn d L qA qB A O W g
      ⊢ wpT d L (cc0__sc_body L inV (Memref.isWhole_whole _) outV (Memref.isWhole_whole _) bA (Memref.isWhole_whole _) bB (Memref.isWhole_whole _) bO (Memref.isWhole_whole _)
          cc0_scratch3 cc0_scratch4 cc0_scoped0) fun _ => tileIn d L qA qB A O W (OUT A) := by
  generalize hb₀ : 32 * wid L = b₀
  have hw := wid_lt L
  unfold cc0__sc_body
  dsimp only
  refine step_aside fun K hK => ?_
  unfold tileIn
  refine step_perm d L (P' := iprop(∃ fA fB, (inLoc d ↦[Finset.univ]{qA} A) ∗ bPts d L bA fA ∗ semVal (tV d L, .dma sA) 0
    ∗ ((inLoc d ↦[Finset.univ]{qB} A) ∗ bPts d L bB fB ∗ semVal (tV d L, .dma sB) 0 ∗ (outHeld d L (outWord A b₀) 0 0 ∗ ow d L O W ∗ semVal (tV d L, .dma sO) 0 ∗ (outLoc d ↦[outSet L]{fullShare} g))))) ?_ ?_
  · iintro ⟨⟨⟨%fA, HbA⟩, HiA, HsA⟩, ⟨⟨%fB, HbB⟩, HiB, HsB⟩, Hc, Hs, Ho, Hw⟩
    iexists fA
    iexists fB
    isplitl [HiA]; · iexact HiA
    isplitl [HbA]; · iexact HbA
    isplitl [HsA]; · iexact HsA
    isplitl [HiB]; · iexact HiB
    isplitl [HbB]; · iexact HbB
    isplitl [HsB]; · iexact HsB
    isplitl [Hc]; · iapply (outHeld_start d L) $$ Hc
    isplitl [Hw]; · iexact Hw
    isplitl [Hs]
    · iexact Hs
    · iexact Ho
  refine exists_elim fun fA => exists_elim fun fB => ?_
  refine step_dma d L bA (write_bA d L) A (b₀ + 0) (by omega) (off1_even L hb₀.symm) ?_
  refine step_perm d L (P' := iprop((inLoc d ↦[Finset.univ]{qB} A) ∗ bPts d L bB fB ∗ semVal (tV d L, .dma sB) 0
    ∗ (fly d L bA sA qA A (b₀ + 0) ∗ (outHeld d L (outWord A b₀) 0 0 ∗ ow d L O W ∗ semVal (tV d L, .dma sO) 0 ∗ (outLoc d ↦[outSet L]{fullShare} g))))) ?_ ?_
  · iintro ⟨HA, HiB, HbB, HsB, HR⟩
    isplitl [HiB]; · iexact HiB
    isplitl [HbB]; · iexact HbB
    isplitl [HsB]; · iexact HsB
    isplitl [HA]
    · iexact HA
    · iexact HR
  refine step_dma d L bB (write_bB d L) A (b₀ + 1) (by omega) (off1_odd L hb₀.symm) ?_
  refine step_for d L (tripInv d L qA qB A O W iprop(semVal (tV d L, .dma sO) 0 ∗ (outLoc d ↦[outSet L]{fullShare} g)) b₀) (n := 16) (by decide) ?_ ?_ ?_
  · unfold tripInv
    iintro ⟨HB, HA, Hc, Hw, HR⟩
    isplitl [HA]; · iapply (strm_of_fly d L 0 (by decide)) $$ HA
    isplitl [HB]; · iapply (strm_of_fly d L 1 (by decide)) $$ HB
    isplitl [Hc]; · iexact Hc
    isplitl [Hw]
    · iexact Hw
    · iexact HR
  · intro k _ hk
    have hb : 2 * k.val < 32 := by omega
    have hb1 : 2 * k.val + 1 < 32 := by omega
    have hM := mu_inb
    have hO : ∀ m : ℕ, m < 39 → ∀ a x, ((![addi (outOff (2 * k.val + 1)) (broadcast S16 (BitVec.ofNat 32 m))] : Fin 1 → IVec S16 32) a x).toNat < S19968.size a := fun m hm => outIx_inb hb1 hm
    generalize hR : (iprop(semVal (tV d L, .dma sO) 0 ∗ (outLoc d ↦[outSet L]{fullShare} g)) : sProp 𝕄) = R
    refine step_aside fun K' hK' => ?_
    refine step_perm d L (P' := iprop(fly d L bA sA qA A (b₀ + 2 * k.val) ∗ ow d L O W ∗ outHeld d L (outWord A b₀) (2 * k.val) 0 ∗ (fly d L bB sB qB A (b₀ + (2 * k.val + 1)) ∗ R))) ?_ ?_
    · unfold tripInv
      iintro ⟨HA, HB, Hc, Hw, HR⟩
      isplitl [HA]; · iapply (strm_fly d L _ hb) $$ HA
      isplitl [Hw]; · iexact Hw
      isplitl [Hc]; · iexact Hc
      isplitl [HB]
      · iapply (strm_fly d L _ hb1) $$ HB
      · iexact HR
    refine step_bind (win29 d L _ k hk fun f hf h => ?_)
    dsimp only
    refine step_bind (win30 d L hb hf fun h' => ?_)
    dsimp only
    refine step_perm d L (P' := iprop(bPts d L bA f ∗ outHeld d L (outWord A b₀) (2 * k.val) 9 ∗ rest d L sA qA A ∗ fly d L bB sB qB A (b₀ + (2 * k.val + 1)) ∗ ow d L O W ∗ R)) ?_ ?_
    · iintro ⟨Hb, Hc, Hr, Hw, Hg, HR⟩
      isplitl [Hb]; · iexact Hb
      isplitl [Hc]; · iexact Hc
      isplitl [Hr]; · iexact Hr
      isplitl [Hg]; · iexact Hg
      isplitl [Hw]
      · iexact Hw
      · iexact HR
    refine step_bind (win31 d L _ _ k rfl hb hb₀.symm hf fun f' hB => ?_)
    dsimp only
    refine step_bind (win32 d L k.val hk hB ?_)
    dsimp only
    refine step_bind (win33 d L hb1 hB ?_)
    iterate 2
      refine step_assume ?_ ?_
      · exact hM _ (by decide)
      refine step_gather d L bB hB ?_
      refine step_assume ?_ ?_
      · exact hO _ (by decide)
      refine step_mu d L hb1 ?_ ?_ ?_ ?_
      · decide
      · exact rfl
      · exact rfl
    refine step_for d L (fun w => iprop(bPts d L bB f' ∗ outHeld d L (outWord A b₀) (2 * k.val + 1) (13 + w)
      ∗ (rest d L sB qB A ∗ strm d L bA sA qA A b₀ (2 * k.val + 2) ∗ ow d L O W ∗ R))) (n := 26) (by decide) (Entails.rfl) ?_ ?_
    · intro w _ hw
      rw [part28_eq]
      refine step_bind (trip_part14 d L _ _ _ _ _ _ _ _ _ _ _ _ _ w (2 * k.val + 1) (by rw [iv_toNat w.val (by omega)]; exact hw) ?_)
      rw [hB]
      dsimp only
      refine step_assume ?_ ?_
      · exact cat_inb hb1 hw
      refine step_scatter d L hb1 (by omega) (cat_ix hb1 hw) (cat_val hw) ?_
      exact step_pure Entails.rfl
    intro _
    subst hK'
    by_cases hc : k0_cond2 k = 1#1
    · have hk' : k.val < 15 := (cond2_iff k).1 hc
      rw [dif_pos hc]
      refine step_perm d L (P' := iprop((inLoc d ↦[Finset.univ]{qB} A) ∗ bPts d L bB f' ∗ semVal (tV d L, .dma sB) 0
        ∗ (strm d L bA sA qA A b₀ (2 * k.val + 2) ∗ ow d L O W ∗ outHeld d L (outWord A b₀) (2 * k.val + 1) 39 ∗ R))) ?_ ?_
      · iintro ⟨Hb, Ho, ⟨HA, Hs⟩, Hf, Hw, HR⟩
        isplitl [HA]; · iexact HA
        isplitl [Hb]; · iexact Hb
        isplitl [Hs]; · iexact Hs
        isplitl [Hf]; · iexact Hf
        isplitl [Hw]; · iexact Hw
        isplitl [Ho]
        · iexact Ho
        · iexact HR
      refine step_dma d L bB (write_bB d L) A (b₀ + (2 * k.val + 1 + 2)) (by omega) (off5_blk L k hb₀.symm rfl) ?_
      refine step_pure ?_
      unfold tripInv
      iintro ⟨Hg, Hf, Hw, Ho, HR⟩
      isplitl [Hf]; · iexact Hf
      isplitl [Hg]; · iapply (strm_of_fly d L (2 * k.val + 1 + 2) (by omega)) $$ Hg
      isplitl [Ho]; · iapply (outHeld_next d L) $$ Ho
      isplitl [Hw]
      · iexact Hw
      · iexact HR
    · have hk' : ¬ k.val < 15 := fun h => hc ((cond2_iff k).2 h)
      rw [dif_neg hc]
      refine step_pure ?_
      unfold tripInv
      iintro ⟨Hb, Ho, Hr, Hf, Hw, HR⟩
      isplitl [Hf]; · iexact Hf
      isplitl [Hb Hr]
      · iapply (strm_of_rest d L (2 * k.val + 1 + 2) (by omega)) $$ [Hb Hr]
        isplitl [Hb]
        · iexists f'; iexact Hb
        · iexact Hr
      isplitl [Ho]; · iapply (outHeld_next d L) $$ Ho
      isplitl [Hw]
      · iexact Hw
      · iexact HR
  · intro _
    unfold tripInv
    subst hK
    exact copy_out d L hb₀.symm A qA qB O W g

end Cert.Proof.K

end
-- ==== Proof.Launch.lean ====
/-
  The launch: a share of the flat input and a part of the flat result to every tile and back, the two reshapes around
  it, and the run of the whole program with the value it leaves. Stated for any interpretation `F` of the float types.
-/
module

public import proofs.«01_k».proof.Proof.Tile

@[expose] public section

noncomputable section

namespace Cert.Proof.K

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## What the tiles are handed -/

/-- Tile `s` of SparseCore `c`. -/
def tile (c : Fin 2) (s : Fin 16) : grid0.Coords :=
  fun | 0 => c | 1 => s | ⟨_ + 2, h⟩ => absurd h (Nat.not_lt.2 (Nat.le_add_left _ _))

/-- A SparseCore's share of the flat input, -/
def coreShare (c : Fin 2) : PosShare TreeShare := Transfers.dealOf fullShare Finset.univ c
/-- a tile's, -/
def tileShare (c : Fin 2) (s : Fin 16) : PosShare TreeShare := Transfers.dealOf (coreShare c) Finset.univ s
/-- and what it lends to the copies into each of its buffers. -/
def bufShare (c : Fin 2) (s : Fin 16) (b : Fin 2) : PosShare TreeShare := Transfers.dealOf (tileShare c s) Finset.univ b

/-- A SparseCore's part of the flat result: its tiles'. -/
def coreSet (c : Fin 2) : Finset S638976.Idx := Finset.univ.biUnion fun s : Fin 16 => outSet (tile c s)

omit [FloatOps F] in
/-- A position is in a tile's part when its block of blocks is the tile's. -/
theorem mem_outSet (L : grid0.Coords) (i : S638976.Idx) : i ∈ outSet L ↔ (i 0).val / 19968 = wid L := by
  constructor
  · intro hi
    obtain ⟨y, -, rfl⟩ := Finset.mem_map.1 (show i ∈ Finset.univ.map (outPart L).view.emb from hi)
    have hy : (y 0).val < 19968 := (y 0).isLt
    rw [outPart_emb L y]; omega
  · intro h
    refine Finset.mem_map.2 ⟨pos1 19968 (by decide) ((i 0).val % 19968), Finset.mem_univ _, ?_⟩
    refine funext fun (a : Fin 1) => ?_
    obtain rfl : a = 0 := Subsingleton.elim _ _
    refine Fin.ext ((outPart_emb L _).trans ?_)
    show 19968 * wid L + (i 0).val % 19968 % 19968 = (i 0).val
    omega

omit [FloatOps F] in
/-- A tile's number, from its core and its place. -/
theorem wid_tile (c : Fin 2) (s : Fin 16) : wid (tile c s) = s.val * 2 + c.val := rfl

omit [FloatOps F] in
/-- The parts of a core's tiles are disjoint. -/
theorem tiles_disjoint (c : Fin 2) : ∀ s ∈ (Finset.univ : Finset (Fin 16)), ∀ s' ∈ (Finset.univ : Finset (Fin 16)), s ≠ s' →
    Disjoint (outSet (tile c s)) (outSet (tile c s')) := fun s _ s' _ h =>
  Finset.disjoint_left.2 fun i hi hi' => h (Fin.ext (by
    have h1 := (mem_outSet _ i).1 hi; have h2 := (mem_outSet _ i).1 hi'; rw [wid_tile] at h1 h2; omega))

omit [FloatOps F] in
/-- Which positions are a core's. -/
theorem mem_coreSet (c : Fin 2) (i : S638976.Idx) : i ∈ coreSet c ↔ (i 0).val / 19968 % 2 = c.val := by
  have hi : (i 0).val < 638976 := (i 0).isLt
  have hc : c.val < 2 := c.isLt
  unfold coreSet
  rw [Finset.mem_biUnion]
  constructor
  · rintro ⟨s, -, hs⟩
    have h := (mem_outSet _ i).1 hs
    rw [wid_tile] at h; omega
  · intro h
    refine ⟨⟨(i 0).val / 19968 / 2, by omega⟩, Finset.mem_univ _, (mem_outSet _ i).2 ?_⟩
    rw [wid_tile]; show _ = (i 0).val / 19968 / 2 * 2 + c.val; omega

omit [FloatOps F] in
/-- The two cores' parts are disjoint, -/
theorem cores_disjoint : ∀ c ∈ (Finset.univ : Finset (Fin 2)), ∀ c' ∈ (Finset.univ : Finset (Fin 2)), c ≠ c' → Disjoint (coreSet c) (coreSet c') :=
  fun c _ c' _ h => Finset.disjoint_left.2 fun i hi hi' => h (Fin.ext (((mem_coreSet c i).1 hi).symm.trans ((mem_coreSet c' i).1 hi')))

omit [FloatOps F] in
/-- and cover the result. -/
theorem cores_cover : (Finset.univ : Finset (Fin 2)).biUnion coreSet = Finset.univ := by
  refine Finset.eq_univ_iff_forall.2 fun i => Finset.mem_biUnion.2 ⟨⟨(i 0).val / 19968 % 2, Nat.mod_lt _ (by decide)⟩, Finset.mem_univ _, (mem_coreSet _ i).2 rfl⟩

/-- The flat input. -/
def flat (d : Dev nD) : S43024384.Idx → F .f32 := shapeCast S43024384 (m (aLoc d)) shapeCasts_S16384x2626_S43024384

/-- What a tile takes and brings back, the result at `g`. -/
def tilePay (d : Dev nD) (c : Fin 2) (s : Fin 16) (g : S638976.Idx → F .f32) : sProp 𝕄 :=
  iprop((inLoc d ↦[Finset.univ]{tileShare c s} flat m d) ∗ (outLoc d ↦[outSet (tile c s)]{fullShare} g))

/-- What a SparseCore takes and brings back. -/
def corePay (d : Dev nD) (c : Fin 2) (g : S638976.Idx → F .f32) : sProp 𝕄 :=
  iprop((inLoc d ↦[Finset.univ]{coreShare c} flat m d) ∗ (outLoc d ↦[coreSet c]{fullShare} g))

omit [FloatOps F] in
/-- The call runs on two cores -/
theorem nCore_zero : (K (F := F)).nCore 0 = 2 := rfl
omit [FloatOps F] in
/-- of sixteen tiles each. -/
theorem nSub_zero : (K (F := F)).nSub 0 = 16 := rfl

/-- The payments of the one call. -/
def P : (K (F := F)).Pay (nD := nD) (Val := Elt F) (Name := ℕ) (U := UU) where
  st := fun q d c => match q with | 0 => corePay m d (Fin.cast nCore_zero c) (m (outLoc d))
  dn := fun q d c => match q with | 0 => corePay m d (Fin.cast nCore_zero c) (OUT (flat m d))
  go := fun q d c s => match q with | 0 => tilePay m d (Fin.cast nCore_zero c) (Fin.cast nSub_zero s) (m (outLoc d))
  td := fun q d c s => match q with | 0 => tilePay m d (Fin.cast nCore_zero c) (Fin.cast nSub_zero s) (OUT (flat m d))
  x := fun _ _ => iprop(emp)

/-- What a core is handed can be kept in an invariant. -/
instance corePay_storable (d : Dev nD) (c : Fin 2) (g : S638976.Idx → F .f32) : BI.Storable (upEmb : UEmb _ 𝕄) (corePay m d c g) := by
  unfold corePay; infer_instance
/-- So can what a tile is handed, -/
instance tilePay_storable (d : Dev nD) (c : Fin 2) (s : Fin 16) (g : S638976.Idx → F .f32) : BI.Storable (upEmb : UEmb _ 𝕄) (tilePay m d c s g) := by
  unfold tilePay; infer_instance

/-- and so all that the call hands over. -/
instance P_storable : (P (F := F) m).IsStorable where
  st q d c := match q with | 0 => corePay_storable m d _ _
  dn q d c := match q with | 0 => corePay_storable m d _ _
  go q d c s := match q with | 0 => tilePay_storable m d _ _ _
  td q d c s := match q with | 0 => tilePay_storable m d _ _ _

/-- A SparseCore's payment is its tiles'. -/
theorem corePay_tiles (d : Dev nD) (c : Fin 2) (g : S638976.Idx → F .f32) :
    corePay m d c g = bigSep Finset.univ fun s : Fin 16 => tilePay m d c s g := by
  unfold corePay tilePay
  rw [bigSep_sep', Transfers.pointsTo_deal (Finset.univ : Finset (Fin 16)) ⟨0, Finset.mem_univ _⟩ (coreShare c)]
  unfold coreSet
  rw [pointsTo_biUnion Finset.univ (ℓ := outLoc d) (fun s : Fin 16 => outSet (tile c s)) (tiles_disjoint c)]
  rfl

/-- The two arrays are the SparseCores' payments. -/
theorem pts_cores (d : Dev nD) (g : S638976.Idx → F .f32) :
    (iprop((inLoc d ↦{fullShare} flat m d) ∗ (outLoc d ↦{fullShare} g)) : sProp 𝕄) = bigSep Finset.univ fun c : Fin 2 => corePay m d c g := by
  unfold corePay
  rw [bigSep_sep', Transfers.pointsTo_deal (Finset.univ : Finset (Fin 2)) ⟨0, Finset.mem_univ _⟩ fullShare,
    ← pointsTo_biUnion Finset.univ (ℓ := outLoc d) coreSet cores_disjoint, cores_cover]
  rfl

/-! ## A tile -/

section Tile
variable (d : Dev nD) (L : grid0.Coords)

/-- The first input buffer's semaphore on a tile, -/
abbrev cellA : GSem nD τ sig := (tV d L, .dma sA)
/-- the second's, -/
abbrev cellB : GSem nD τ sig := (tV d L, .dma sB)
/-- and the output copy's. -/
abbrev cellO : GSem nD τ sig := (tV d L, .dma sO)

omit [FloatOps F] in
/-- The three copies' semaphores are among the tile's own. -/
theorem ownSems0_V :
    (ownSems0 (tV d L) : sProp 𝕄)
      = iprop(semVal (cellA d L) 0 ∗ semVal (cellB d L) 0 ∗ semVal (cellO d L) 0
          ∗ bigSep ((((ownCells (tV d L)).erase (cellA d L)).erase (cellB d L)).erase (cellO d L)) fun g => semVal g 0) := by
  unfold SparseCore.Cfg.ownSems0
  have hA : cellA d L ∈ ownCells (tV d L) := (mem_ownCells (g := cellA d L)).mpr ⟨rfl, by
      show (SemLoc.dma sA : SemLoc sig).isScoped .scVector = true; decide⟩
  have hB : cellB d L ∈ ownCells (tV d L) := (mem_ownCells (g := cellB d L)).mpr ⟨rfl, by
      show (SemLoc.dma sB : SemLoc sig).isScoped .scVector = true; decide⟩
  have hC : cellO d L ∈ ownCells (tV d L) := (mem_ownCells (g := cellO d L)).mpr ⟨rfl, by
      show (SemLoc.dma sO : SemLoc sig).isScoped .scVector = true; decide⟩
  have hBA : cellB d L ≠ cellA d L := fun e => absurd (show (SemLoc.dma sB : SemLoc sig) = SemLoc.dma sA from (Prod.ext_iff.1 e).2) (by decide)
  have hCA : cellO d L ≠ cellA d L := fun e => absurd (show (SemLoc.dma sO : SemLoc sig) = SemLoc.dma sA from (Prod.ext_iff.1 e).2) (by decide)
  have hCB : cellO d L ≠ cellB d L := fun e => absurd (show (SemLoc.dma sO : SemLoc sig) = SemLoc.dma sB from (Prod.ext_iff.1 e).2) (by decide)
  rw [SparseCore.bigSep_erase' hA, SparseCore.bigSep_erase' (Finset.mem_erase.mpr ⟨hBA, hB⟩),
    SparseCore.bigSep_erase' (Finset.mem_erase.mpr ⟨hCB, Finset.mem_erase.mpr ⟨hCA, hC⟩⟩)]

/-- A tile's own buffer. -/
abbrev refOf (b : Ref sig .scVector) : DevRef τ sig := (tV d L).2.devRef b

omit [FloatOps F] in
/-- The three buffers are among the tile's own. -/
theorem ownBufs_V :
    (ownBufs (tV d L) : sProp 𝕄)
      = iprop((∃ f, (tV d L).loc cc0_scratch0 ↦{fullShare} f) ∗ (∃ f, (tV d L).loc cc0_scratch1 ↦{fullShare} f) ∗ (∃ f, (tV d L).loc cc0_scratch2 ↦{fullShare} f)
          ∗ bigSep ((((ownRefs (τ := τ) (tV d L).2).erase (refOf d L cc0_scratch0)).erase (refOf d L cc0_scratch1)).erase (refOf d L cc0_scratch2))
              fun b => iprop(∃ f, ((d, b) : Loc nD τ sig) ↦{fullShare} f)) := by
  unfold SparseCore.Cfg.ownBufs
  have h0 : refOf d L cc0_scratch0 ∈ ownRefs (τ := τ) (tV d L).2 := SparseCore.Cfg.mem_ownRefs_of_owner rfl
  have h1 : refOf d L cc0_scratch1 ∈ ownRefs (τ := τ) (tV d L).2 := SparseCore.Cfg.mem_ownRefs_of_owner rfl
  have h2 : refOf d L cc0_scratch2 ∈ ownRefs (τ := τ) (tV d L).2 := SparseCore.Cfg.mem_ownRefs_of_owner rfl
  have n10 : refOf d L cc0_scratch1 ≠ refOf d L cc0_scratch0 := fun e => absurd (show (cc0_scratch1 : Ref sig .scVector) = cc0_scratch0 from Proc.devRef_injective _ e) (by decide)
  have n20 : refOf d L cc0_scratch2 ≠ refOf d L cc0_scratch0 := fun e => absurd (show (cc0_scratch2 : Ref sig .scVector) = cc0_scratch0 from Proc.devRef_injective _ e) (by decide)
  have n21 : refOf d L cc0_scratch2 ≠ refOf d L cc0_scratch1 := fun e => absurd (show (cc0_scratch2 : Ref sig .scVector) = cc0_scratch1 from Proc.devRef_injective _ e) (by decide)
  refine (SparseCore.bigSep_erase' h0).trans ?_
  rw [SparseCore.bigSep_erase' (Finset.mem_erase.mpr ⟨n10, h1⟩), SparseCore.bigSep_erase' (Finset.mem_erase.mpr ⟨n21, Finset.mem_erase.mpr ⟨n20, h2⟩⟩)]

end Tile

/-- A tile's program, between what the launch gives it and what it gives back. -/
theorem tile_body (d : Dev nD) (c : Fin 2) (s : Fin 16) (hF : (K (F := F)).Facts) (O : CellTallies nD τ sig (HIx 1)) (W : Waits sig (HIx 1)) (hO : ∀ g, O g none = 0) :
    iprop(levAts (K (F := F)).L (K (F := F)).lev ∗ emp ∗ tilePay m d c s (m (outLoc d))
        ∗ scopedBufs (tV d (tile c s)) ∗ scopedSems0 (tV d (tile c s)) ∗ owes (tV d (tile c s)) O W)
      ⊢ wpT d (tile c s) (cc0__sc_body (tile c s) inV (Memref.isWhole_whole _) outV (Memref.isWhole_whole _) bA (Memref.isWhole_whole _) bB (Memref.isWhole_whole _) bO (Memref.isWhole_whole _)
          cc0_scratch3 cc0_scratch4 cc0_scoped0)
          fun _ => iprop(tilePay m d c s (OUT (flat m d)) ∗ scopedBufs (tV d (tile c s)) ∗ scopedSems0 (tV d (tile c s))
            ∗ ∃ W', ⌜∀ p ∈ W', p ∈ W ∨ p.2 = none⌝ ∗ owes (tV d (tile c s)) O W') := by
  have hdeal : (inLoc d ↦[Finset.univ]{tileShare c s} flat m d : sProp 𝕄)
      = iprop((inLoc d ↦[Finset.univ]{bufShare c s 0} flat m d) ∗ (inLoc d ↦[Finset.univ]{bufShare c s 1} flat m d)) :=
    (Transfers.pointsTo_deal (Finset.univ : Finset (Fin 2)) ⟨0, Finset.mem_univ _⟩ (tileShare c s)).trans (bigSep_univ_two _)
  rw [(K (F := F)).scopedBufs_V hF d _ _, SparseCore.Cfg.scopedSems0_V (Val := Elt F) d _ _, ownSems0_V, ownBufs_V]
  unfold tilePay
  rw [hdeal]
  unfold wpT
  iintro ⟨#Hlv, -, ⟨⟨HiA, HiB⟩, Ho⟩, ⟨HbA, HbB, Hc, Hbufs⟩, ⟨HsA, HsB, HsO, Hsems⟩, HO⟩
  ihave Hm := ((K (F := F)).mayWaits_none (thr := tV d (tile c s)) hO) $$ Hlv
  ihave Hin := (body_run d (tile c s) (bufShare c s 0) (bufShare c s 1) (flat m d) O W (m (outLoc d))) $$ [HiA HiB Ho HbA HbB Hc HsA HsB HsO HO Hm]
  · unfold tileIn ow
    isplitl [HbA HiA HsA]
    · isplitl [HbA]
      · iexact HbA
      isplitl [HiA]
      · iexact HiA
      · iexact HsA
    isplitl [HbB HiB HsB]
    · isplitl [HbB]
      · iexact HbB
      isplitl [HiB]
      · iexact HiB
      · iexact HsB
    isplitl [Hc]
    · iexact Hc
    isplitl [HsO]
    · iexact HsO
    isplitl [Ho]
    · iexact Ho
    isplitl [HO]
    · iexists W
      isplitr
      · ipureintro; exact fun p hp => .inl hp
      · iexact HO
    · iexact Hm
  iapply (wp_wand frame _ _) $$ Hin
  iintro %_ Hout
  unfold tileIn ow
  icases Hout with ⟨⟨HbA, HiA, HsA⟩, ⟨HbB, HiB, HsB⟩, Hc, HsO, Ho, HO, -⟩
  isplitl [HiA HiB Ho]
  · isplitl [HiA HiB]
    · isplitl [HiA]
      · iexact HiA
      · iexact HiB
    · iexact Ho
  isplitl [HbA HbB Hc Hbufs]
  · isplitl [HbA]
    · iexact HbA
    isplitl [HbB]
    · iexact HbB
    isplitl [Hc]
    · iexact Hc
    · iexact Hbufs
  isplitl [HsA HsB HsO Hsems]
  · isplitl [HsA]
    · iexact HsA
    isplitl [HsB]
    · iexact HsB
    isplitl [HsO]
    · iexact HsO
    · iexact Hsems
  iexact HO

/-! ## The launch theorem's obligations -/

/-- What the launch runs on a tile: the kernel's body. -/
theorem defs₀_vector (c : Fin τ.nSC) (s : Fin τ.nSub) :
    defs₀ (F := F) (.scVector c s) 0 ()
      = SparseCore.onTile Facts₀.hcore0 Facts₀.hsub0 (fun c s => cc0__sc_body (tile c s) inV (Memref.isWhole_whole _) outV (Memref.isWhole_whole _)
          bA (Memref.isWhole_whole _) bB (Memref.isWhole_whole _) bO (Memref.isWhole_whole _) cc0_scratch3 cc0_scratch4 cc0_scoped0) ⟨⟩ c s := rfl

omit [FloatOps F] in
/-- The waits a tile reports, as the launch asks for them. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'
  isplitr
  · ipureintro; exact fun p hp => (hW' p hp).imp_right Or.inl
  · iexact HO

/-- What the launch asks of a tile. -/
theorem tileObl (hF : (K (F := F)).Facts) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d ⟨_, hc.1⟩ ⟨_, hc.2⟩ hF O W hO).trans (wp_mono frame _ _ fun _ => obl_post)

/-- A SparseCore's payment to its tiles and back. -/
theorem vecSplit : (K (F := F)).VecSplit' (P m) 0 := by
  intro d c
  show corePay m d (Fin.cast nCore_zero c) (m (outLoc d)) ⊢ |={Set.univ}=> iprop(
      (bigSep Finset.univ fun s : Fin 16 => tilePay m d (Fin.cast nCore_zero c) s (m (outLoc d)))
      ∗ ((bigSep Finset.univ fun s : Fin 16 => tilePay m d (Fin.cast nCore_zero c) s (OUT (flat m d))) -∗ corePay m d (Fin.cast nCore_zero c) (OUT (flat m d))))
  rw [corePay_tiles, corePay_tiles]
  iintro H
  imodintro
  isplitl [H]
  · iexact H
  iintro H
  iexact H

/-! ## The launch element -/

/-- The launch's ghost element: the handshakes' tokens. -/
def u₀ : UU := (initOf (K (F := F)).hsCells (K (F := F)).hsToks, 1)

omit [FloatOps F] in
/-- Nothing, many times over. -/
theorem bigSep_none {I : Type} (s : Finset I) : (bigSep s fun _ => iprop(emp)) = (iprop(emp) : sProp 𝕄) := bigSep_emp_const s

/-- The launch element gives the handshakes' tokens, and nothing else is asked of it. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]
  · iexact HH
  isplitr
  · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The program on the TensorCore -/

/-- The argument's array, -/
abbrev a' : DevRef τ sig := Proc.devRef .tc (main_arg0 : Ref sig .tc)
/-- the flat input's, -/
abbrev t' : DevRef τ sig := Proc.devRef .tc (main_v0 : Ref sig .tc)
/-- the flat result's, -/
abbrev o' : DevRef τ sig := Proc.devRef .tc (main_v1 : Ref sig .tc)
/-- the result's. -/
abbrev r' : DevRef τ sig := Proc.devRef .tc (main_v2 : Ref sig .tc)
/-- The argument flattened; the flat result reshaped. -/
abbrev opIn : HloOp τ sig (Elt F) := StableHlo.reshape main_arg0 main_v0 (rfl : (.f32 : EltTy) = .f32) shapeCasts_S16384x2626_S43024384
@[inherit_doc opIn] abbrev opOut : HloOp τ sig (Elt F) := StableHlo.reshape main_v1 main_v2 (rfl : (.f32 : EltTy) = .f32) shapeCasts_S638976_S16384x39

/-- The four arrays. -/
abbrev S4 : Finset (DevRef τ sig) := {a', t', o', r'}

omit [FloatOps F] in
/-- The four arrays, one by one. -/
theorem held_S4 (d : Dev nD) (W : Valuation τ sig (Elt F)) :
    (held (T d) S4 W : sProp 𝕄) = iprop((aLoc d ↦{fullShare} W a') ∗ (inLoc d ↦{fullShare} W t') ∗ (outLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
/-- The program's arrays are these four. -/
theorem unscopedBufs_eq (d : Dev nD) (W : (b : Ref sig .tc) → Buf (Elt F) ((d.tc : Thread nD τ).loc b)) :
    (unscopedBufs d W : sProp 𝕄) = iprop((aLoc d ↦{fullShare} W main_arg0) ∗ (inLoc d ↦{fullShare} W main_v0) ∗ (outLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays at the launch, after the first reshape, after the call, at the end. -/
def V0 (d : Dev nD) : Valuation τ sig (Elt F) := fun b => m (d, b)
@[inherit_doc V0] def V1 (d : Dev nD) : Valuation τ sig (Elt F) := (opIn (F := F)).result (V0 m d)
@[inherit_doc V0] def V2 (d : Dev nD) : Valuation τ sig (Elt F) := Function.update (V1 m d) o' (OUT (flat m d))
@[inherit_doc V0] def V3 (d : Dev nD) : Valuation τ sig (Elt F) := (opOut (F := F)).result (V2 m d)

omit [FloatOps F] in
/-- At the launch they hold what the memory holds. -/
theorem unscoped_held (d : Dev nD) : (unscopedBufs d (fun b => m ((SparseCore.T d).loc b)) : sProp 𝕄) = held (T d) S4 (V0 m d) := by
  rw [unscopedBufs_eq, held_S4]; rfl

/-- The first reshape leaves the argument, -/
theorem V1_a (d : Dev nD) : V1 m d a' = m (aLoc d) := (opIn (F := F)).result_of_not_mem (V0 m d) (b := a') (show a' ∉ ({t'} : Finset (DevRef τ sig)) by decide)
/-- the flat result's array -/
theorem V1_o (d : Dev nD) : V1 m d o' = m (outLoc d) := (opIn (F := F)).result_of_not_mem (V0 m d) (b := o') (show o' ∉ ({t'} : Finset (DevRef τ sig)) by decide)
/-- and the result's, -/
theorem V1_r (d : Dev nD) : V1 m d r' = m (rLoc d) := (opIn (F := F)).result_of_not_mem (V0 m d) (b := r') (show r' ∉ ({t'} : Finset (DevRef τ sig)) by decide)
/-- and writes the flat input. -/
theorem V1_t (d : Dev nD) : V1 m d t' = flat m d := StableHlo.reshape_result main_arg0 main_v0 rfl shapeCasts_S16384x2626_S43024384 _ _ (V0 m d)
/-- The call leaves the argument, -/
theorem V2_a (d : Dev nD) : V2 m d a' = m (aLoc d) := (Function.update_of_ne (show a' ≠ o' by decide) _ _).trans (V1_a m d)
/-- the flat input -/
theorem V2_t (d : Dev nD) : V2 m d t' = flat m d := (Function.update_of_ne (show t' ≠ o' by decide) _ _).trans (V1_t m d)
/-- and the result's array, -/
theorem V2_r (d : Dev nD) : V2 m d r' = m (rLoc d) := (Function.update_of_ne (show r' ≠ o' by decide) _ _).trans (V1_r m d)
/-- and writes the flat result. -/
theorem V2_o (d : Dev nD) : V2 m d o' = OUT (flat m d) := Function.update_self _ _ _
/-- The last reshape leaves the argument -/
theorem V3_a (d : Dev nD) : V3 m d a' = m (aLoc d) :=
  ((opOut (F := F)).result_of_not_mem (V2 m d) (b := a') (show a' ∉ ({r'} : Finset (DevRef τ sig)) by decide)).trans (V2_a m d)

/-- The result: the flat result of the flattened argument, reshaped. -/
def RES (x : S16384x2626.Idx → F .f32) : S16384x39.Idx → F .f32 :=
  shapeCast S16384x39 (OUT (shapeCast S43024384 x shapeCasts_S16384x2626_S43024384)) shapeCasts_S638976_S16384x39

/-- and writes the result. -/
theorem V3_r (d : Dev nD) : V3 m d r' = RES (m (aLoc d)) :=
  (StableHlo.reshape_result main_v1 main_v2 rfl shapeCasts_S638976_S16384x39 _ _ (V2 m d)).trans (by rw [V2_o]; rfl)

/-- What the call hands over to the two cores, put together. -/
theorem st0_eq (d : Dev nD) : (bigSep Finset.univ fun c : Fin ((K (F := F)).nCore 0) => (P m).st 0 d c) = (iprop((inLoc d ↦{fullShare} flat m d) ∗ (outLoc d ↦{fullShare} m (outLoc d))) : sProp 𝕄) :=
  (pts_cores m d (m (outLoc d))).symm
/-- What it gets back from them, put together. -/
theorem dn0_eq (d : Dev nD) : (bigSep Finset.univ fun c : Fin ((K (F := F)).nCore 0) => (P m).dn 0 d c) = (iprop((inLoc d ↦{fullShare} flat m d) ∗ (outLoc d ↦{fullShare} OUT (flat m d))) : sProp 𝕄) :=
  (pts_cores m d (OUT (flat m d))).symm

/-- The first reshape touches only the four arrays, -/
theorem hIn : (opIn (F := F)).bufs ⊆ S4 := show ({a', t'} : Finset (DevRef τ sig)) ⊆ S4 by decide
/-- and so does the last. -/
theorem hOut : (opOut (F := F)).bufs ⊆ S4 := show ({o', r'} : Finset (DevRef τ sig)) ⊆ S4 by decide

/-- What the program leaves the claim: the argument as it was, the result. -/
abbrev FIN (d : Dev nD) : sProp 𝕄 := iprop((aLoc d ↦{fullShare} m (aLoc d)) ∗ (rLoc d ↦{fullShare} RES (m (aLoc d))))

/-- The program on the TensorCore: a reshape, the call, a reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opIn) (S := S4) hIn (V := V0 m d)) $$ [Hb Hheld]
  · isplitl [Hb]
    · iexact Hb
    · iexact Hheld
  iintro ⟨Hb, Hheld⟩
  rw [wp_ret]
  imodintro
  ihave Hh := (Entails.of_eq (show held (T d) S4 ((opIn (F := F)).result (V0 m d)) = _ from held_S4 (F := F) d (V1 m d))) $$ Hheld
  icases Hh with ⟨Ha, Ht, Ho, Hr⟩
  iapply ((K (F := F)).wp_run (D (F := F)) 𝒱 (EH := EH) (P := P m) κ d 0) $$ [Hst Ha Ht Ho Hb Hr Hts]
  isplitr
  · iexact Hctx
  isplitl [Hst]
  · iexact Hst
  isplitl [Ht Ho]
  · rw [st0_eq, V1_t, V1_o]
    isplitl [Ht]
    · iexact Ht
    · iexact Ho
  iintro ⟨Hst, Hdn⟩
  ihave Hdn' := (Entails.of_eq (dn0_eq m d)) $$ Hdn
  icases Hdn' with ⟨Ht, Ho⟩
  iapply (wp_hlo_within 𝒱 (SparseCore.T d) none Set.univ (op := opOut) (S := S4) hOut (V := V2 m d)) $$ [Hb Ha Ht Ho Hr]
  · isplitl [Hb]
    · iexact Hb
    rw [held_S4, V2_a, V2_t, V2_o, V2_r, V1_a, V1_r]
    isplitl [Ha]
    · iexact Ha
    isplitl [Ht]
    · iexact Ht
    isplitl [Ho]
    · iexact Ho
    · iexact Hr
  iintro ⟨Hb, Hheld⟩
  ihave Hh := (Entails.of_eq (show held (T d) S4 ((opOut (F := F)).result (V2 m d)) = _ from held_S4 (F := F) d (V3 m d))) $$ Hheld
  icases Hh with ⟨Ha, -, -, Hr⟩
  rw [V3_a, V3_r, wp_ret]
  imodintro
  imodintro
  isplitl [Hst]
  · iexact Hst
  isplitr [Hb Hts]
  · isplitl [Ha]
    · iexact Ha
    · iexact Hr
  isplitl [Hb]
  · iexact Hb
  · iexact Hts

/-- What a final state shows. -/
def fq (d : Dev nD) (s' : Phys nD τ sig (Elt F)) : Prop := s'.mem.mem (aLoc d) = m (aLoc d) ∧ s'.mem.mem (rLoc d) = RES (m (aLoc d))

/-- The arrays at the end are the final memory's. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := RES (m (aLoc d)))) $$ [HSI Hr]
  · isplitl [HSI] <;> iassumption
  icases H with %h2
  ipureintro; exact ⟨funext fun i => h1 i (Finset.mem_univ i), funext fun i => h2 i (Finset.mem_univ i)⟩

/-- What the program's run shows. -/
def QC : PUnit × MemSt nD τ sig (Elt F) → Prop := fun r =>
  (∀ c : Dev nD, r.2.mem (aLoc c) = m (aLoc c) ∧ r.2.mem (rLoc c) = RES (m (aLoc c))) ∧ r.2.sem = fun _ => 0

/-- The program's run: it ends, the argument as it was, the result the kernel's function of it, every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.K

end
-- ==== Proof.Ref.lean ====
/-
  The reference's run: a line of operations on the TensorCore, and the value it leaves in the result. Stated for any
  interpretation `F` of the float types.
-/
module

public import proofs.«01_k».proof.Defs
public import Idealize.ShloMosaic.Lib.StableHlo.Run
public import proofs.«01_k».proof.Proof.Gen.ReferenceIdeal

@[expose] public section

noncomputable section

namespace Cert.Proof.R

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ unary main_arg0 main_v0 ((Host.slice S16384x13 ![0, 0] ![1, 2] · slicesBy_S16384x2626_S16384x13_0s1_0s2) : (⟨S16384x2626, .f32⟩ : BufTy).Contents (Elt F) → (⟨S16384x13, .f32⟩ : BufTy).Contents (Elt F)),
    unary main_arg0 main_v1 ((extractStridedSlice S16384x2600 ![0, 26] · slices_S16384x2626_S16384x2600_0_26) : (⟨S16384x2626, .f32⟩ : BufTy).Contents (Elt F) → (⟨S16384x2600, .f32⟩ : BufTy).Contents (Elt F)),
    reshape main_v1 main_v2 (rfl : (.f32 : EltTy) = .f32) shapeCasts_S16384x2600_S16384x26x100,
    nullary main_cst (constant S_ .f32 0xFF800000#32),
    binary main_v2 main_cst main_v3 ((fun x v => Host.reduce FloatOps.maximumf x v reducesTo_S16384x26x100_S16384x26_d2 h_S_) : (⟨S16384x26x100, .f32⟩ : BufTy).Contents (Elt F) → (⟨S_, .f32⟩ : BufTy).Contents (Elt F) → (⟨S16384x26, .f32⟩ : BufTy).Contents (Elt F)),
    nullary main_cst_0 (constant S_ .f32 0xFF800000#32),
    unary main_cst_0 main_v4 (broadcastInDim S16384x26 ![] bcast_S_S16384x26 : (⟨S_, .f32⟩ : BufTy).Contents (Elt F) → (⟨S16384x26, .f32⟩ : BufTy).Contents (Elt F)),
    binary main_v4 main_v3 main_v5 (maximumf : (⟨S16384x26, .f32⟩ : BufTy).Contents (Elt F) → (⟨S16384x26, .f32⟩ : BufTy).Contents (Elt F) → (⟨S16384x26, .f32⟩ : BufTy).Contents (Elt F)),
    unary main_v5 main_v6 (broadcastInDim S16384x26x1 ![0, 1] bcast_S16384x26_S16384x26x1_0_1 : (⟨S16384x26, .f32⟩ : BufTy).Contents (Elt F) → (⟨S16384x26x1, .f32⟩ : BufTy).Contents (Elt F)),
    unary main_v6 main_v7 (broadcastInDim S16384x26x100 ![0, 1, 2] bcast_S16384x26x1_S16384x26x100_0_1_2 : (⟨S16384x26x1, .f32⟩ : BufTy).Contents (Elt F) → (⟨S16384x26x100, .f32⟩ : BufTy).Contents (Elt F)),
    binary main_v2 main_v7 main_v8 (subf : (⟨S16384x26x100, .f32⟩ : BufTy).Contents (Elt F) → (⟨S16384x26x100, .f32⟩ : BufTy).Contents (Elt F) → (⟨S16384x26x100, .f32⟩ : BufTy).Contents (Elt F)),
    unary main_v8 main_v9 (Host.exp : (⟨S16384x26x100, .f32⟩ : BufTy).Contents (Elt F) → (⟨S16384x26x100, .f32⟩ : BufTy).Contents (Elt F)),
    nullary main_cst_1 (constant S_ .f32 0x00000000#32),
    binary main_v9 main_cst_1 main_v10 ((fun x v => Host.reduceAdd x v reducesTo_S16384x26x100_S16384x26_d2 h_S_) : (⟨S16384x26x100, .f32⟩ : BufTy).Contents (Elt F) → (⟨S_, .f32⟩ : BufTy).Contents (Elt F) → (⟨S16384x26, .f32⟩ : BufTy).Contents (Elt F)),
    unary main_v10 main_v11 (broadcastInDim S16384x26x1 ![0, 1] bcast_S16384x26_S16384x26x1_0_1 : (⟨S16384x26, .f32⟩ : BufTy).Contents (Elt F) → (⟨S16384x26x1, .f32⟩ : BufTy).Contents (Elt F)),
    unary main_v11 main_v12 (broadcastInDim S16384x26x100 ![0, 1, 2] bcast_S16384x26x1_S16384x26x100_0_1_2 : (⟨S16384x26x1, .f32⟩ : BufTy).Contents (Elt F) → (⟨S16384x26x100, .f32⟩ : BufTy).Contents (Elt F)),
    binary main_v9 main_v12 main_v13 (Host.divf : (⟨S16384x26x100, .f32⟩ : BufTy).Contents (Elt F) → (⟨S16384x26x100, .f32⟩ : BufTy).Contents (Elt F) → (⟨S16384x26x100, .f32⟩ : BufTy).Contents (Elt F)),
    nullary main_cst_2 (constant S_ .f32 0x38D1B717#32),
    unary main_cst_2 main_call0_v0 (id : (⟨S_, .f32⟩ : BufTy).Contents (Elt F) → (⟨S_, .f32⟩ : BufTy).Contents (Elt F)),
    unary main_call0_v0 main_call0_v1 (broadcastInDim S16384x26x100 ![] bcast_S_S16384x26x100 : (⟨S_, .f32⟩ : BufTy).Contents (Elt F) → (⟨S16384x26x100, .f32⟩ : BufTy).Contents (Elt F)),
    binary main_call0_v1 main_v13 main_v14 (maximumf : (⟨S16384x26x100, .f32⟩ : BufTy).Contents (Elt F) → (⟨S16384x26x100, .f32⟩ : BufTy).Contents (Elt F) → (⟨S16384x26x100, .f32⟩ : BufTy).Contents (Elt F)),
    nullary main_cst_3 (constant S_ .f32 0x00000000#32),
    binary main_v14 main_cst_3 main_v15 ((fun x v => Host.reduceAdd x v reducesTo_S16384x26x100_S16384x26_d2 h_S_) : (⟨S16384x26x100, .f32⟩ : BufTy).Contents (Elt F) → (⟨S_, .f32⟩ : BufTy).Contents (Elt F) → (⟨S16384x26, .f32⟩ : BufTy).Contents (Elt F)),
    unary main_v15 main_v16 (broadcastInDim S16384x26x1 ![0, 1] bcast_S16384x26_S16384x26x1_0_1 : (⟨S16384x26, .f32⟩ : BufTy).Contents (Elt F) → (⟨S16384x26x1, .f32⟩ : BufTy).Contents (Elt F)),
    unary main_v16 main_v17 (broadcastInDim S16384x26x100 ![0, 1, 2] bcast_S16384x26x1_S16384x26x100_0_1_2 : (⟨S16384x26x1, .f32⟩ : BufTy).Contents (Elt F) → (⟨S16384x26x100, .f32⟩ : BufTy).Contents (Elt F)),
    binary main_v14 main_v17 main_v18 (Host.divf : (⟨S16384x26x100, .f32⟩ : BufTy).Contents (Elt F) → (⟨S16384x26x100, .f32⟩ : BufTy).Contents (Elt F) → (⟨S16384x26x100, .f32⟩ : BufTy).Contents (Elt F)),
    nullary main_call1_v0 (iotaInDim S16384x26x100 32 2),
    nullary main_call1_cst (constant S_ .f32 0xFF800000#32),
    nullary main_call1_c (constantI S_ 32 0#32),
    quaternary main_v18 main_call1_v0 main_call1_cst main_call1_c main_call1_v1_0 ((fun x y u v j => (Host.argReduce reducer_argmax_f32_i32 x y u v reducesTo_S16384x26x100_S16384x26_d2 h_S_ j).1) : (⟨S16384x26x100, .f32⟩ : BufTy).Contents (Elt F) → (⟨S16384x26x100, .i32⟩ : BufTy).Contents (Elt F) → (⟨S_, .f32⟩ : BufTy).Contents (Elt F) → (⟨S_, .i32⟩ : BufTy).Contents (Elt F) → (⟨S16384x26, .f32⟩ : BufTy).Contents (Elt F)),
    quaternary main_v18 main_call1_v0 main_call1_cst main_call1_c main_v19 ((fun x y u v j => (Host.argReduce reducer_argmax_f32_i32 x y u v reducesTo_S16384x26x100_S16384x26_d2 h_S_ j).2) : (⟨S16384x26x100, .f32⟩ : BufTy).Contents (Elt F) → (⟨S16384x26x100, .i32⟩ : BufTy).Contents (Elt F) → (⟨S_, .f32⟩ : BufTy).Contents (Elt F) → (⟨S_, .i32⟩ : BufTy).Contents (Elt F) → (⟨S16384x26, .i32⟩ : BufTy).Contents (Elt F)),
    unary main_v19 main_v20 (sitofp .f32 : (⟨S16384x26, .i32⟩ : BufTy).Contents (Elt F) → (⟨S16384x26, .f32⟩ : BufTy).Contents (Elt F)),
    binary main_v0 main_v20 main_v21 ((fun a b => concatenate S16384x39 1 [⟨S16384x13, a⟩, ⟨S16384x26, b⟩] concatenates_S16384x13_S16384x26_S16384x39_d1) : (⟨S16384x13, .f32⟩ : BufTy).Contents (Elt F) → (⟨S16384x26, .f32⟩ : BufTy).Contents (Elt F) → (⟨S16384x39, .f32⟩ : BufTy).Contents (Elt F)) ]

/-- The reference is this line of operations. -/
theorem main_eq (c : Dev nD) : main (F := F) c = seq ops := rfl

/-! ## The value, in stages -/

/-- The 26 groups of 100 columns. -/
def groups (x : FVec F S16384x2626 .f32) : FVec F S16384x26x100 .f32 :=
  shapeCast S16384x26x100 (extractStridedSlice S16384x2600 ![0, 26] x slices_S16384x2626_S16384x2600_0_26) shapeCasts_S16384x2600_S16384x26x100
/-- A value a group, over the group. -/
def spread (y : FVec F S16384x26 .f32) : FVec F S16384x26x100 .f32 :=
  broadcastInDim S16384x26x100 ![0, 1, 2] bcast_S16384x26x1_S16384x26x100_0_1_2 (broadcastInDim S16384x26x1 ![0, 1] bcast_S16384x26_S16384x26x1_0_1 y)
/-- A group's greatest element. -/
def top (z : FVec F S16384x26x100 .f32) : FVec F S16384x26 .f32 :=
  maximumf (broadcastInDim S16384x26 ![] bcast_S_S16384x26 (constant S_ .f32 0xFF800000#32))
    (Host.reduce FloatOps.maximumf z (constant S_ .f32 0xFF800000#32) reducesTo_S16384x26x100_S16384x26_d2 h_S_)
/-- A group divided by its sum. -/
def normed (z : FVec F S16384x26x100 .f32) : FVec F S16384x26x100 .f32 :=
  Host.divf z (spread (Host.reduceAdd z (constant S_ .f32 0x00000000#32) reducesTo_S16384x26x100_S16384x26_d2 h_S_))
/-- The groups' exponentials below their greatest elements. -/
def expd (x : FVec F S16384x2626 .f32) : FVec F S16384x26x100 .f32 := Host.exp (subf (groups x) (spread (top (groups x))))
/-- The probabilities, none below the bound, -/
def clipped (x : FVec F S16384x2626 .f32) : FVec F S16384x26x100 .f32 :=
  maximumf (broadcastInDim S16384x26x100 ![] bcast_S_S16384x26x100 (constant S_ .f32 0x38D1B717#32)) (normed (expd x))
/-- and renormalised. -/
def probs (x : FVec F S16384x2626 .f32) : FVec F S16384x26x100 .f32 := normed (clipped x)
/-- A group's category. -/
def cat (x : FVec F S16384x2626 .f32) : IVec S16384x26 32 := fun j =>
  (Host.argReduce reducer_argmax_f32_i32 (probs x) (iotaInDim S16384x26x100 32 2) (constant S_ .f32 0xFF800000#32) (constantI S_ 32 0#32)
    reducesTo_S16384x26x100_S16384x26_d2 h_S_ j).2
/-- The means. -/
def mean (x : FVec F S16384x2626 .f32) : FVec F S16384x13 .f32 := Host.slice S16384x13 ![0, 0] ![1, 2] x slicesBy_S16384x2626_S16384x13_0s1_0s2
/-- The result. -/
def res (x : FVec F S16384x2626 .f32) : FVec F S16384x39 .f32 :=
  concatenate S16384x39 1 [⟨S16384x13, mean x⟩, ⟨S16384x26, sitofp .f32 (cat x)⟩] concatenates_S16384x13_S16384x26_S16384x39_d1

/-- What the operations before the last leave in the means' array, -/
theorem mean_eq (V : Valuation τ sig (Elt F)) : after (ops.take 33) V (main_v0 : DevRef τ sig) = mean (V (main_arg0 : DevRef τ sig)) := by
  simp only [ops, List.take_succ_cons, List.take_zero]
  set_option maxRecDepth 8192 in
  after_results_simp
  rfl
/-- and in the categories'. -/
theorem cat_eq (V : Valuation τ sig (Elt F)) : after (ops.take 33) V (main_v20 : DevRef τ sig) = sitofp .f32 (cat (V (main_arg0 : DevRef τ sig))) := by
  simp only [ops, List.take_succ_cons, List.take_zero]
  set_option maxRecDepth 8192 in
  after_results_simp
  rfl

/-- What the line leaves in the result. -/
theorem out_eq (V : Valuation τ sig (Elt F)) :
    after ops V (main_v21 : DevRef τ sig) = res (V (main_arg0 : DevRef τ sig)) := by
  unfold res
  rw [← mean_eq V, ← cat_eq V]
  show (binary main_v0 main_v20 main_v21 ((fun a b => concatenate S16384x39 1 [⟨S16384x13, a⟩, ⟨S16384x26, b⟩] concatenates_S16384x13_S16384x26_S16384x39_d1) : (⟨S16384x13, .f32⟩ : BufTy).Contents (Elt F) → (⟨S16384x26, .f32⟩ : BufTy).Contents (Elt F) → (⟨S16384x39, .f32⟩ : BufTy).Contents (Elt F))).result (after (ops.take 33) V) (main_v21 : DevRef τ sig) = _
  rw [binary_result]

/-- The line leaves the argument. -/
theorem arg0_eq (V : Valuation τ sig (Elt F)) : after ops V (main_arg0 : DevRef τ sig) = V (main_arg0 : DevRef τ sig) := by
  set_option maxRecDepth 8192 in
  after_results_simp

/-- No buffer of the reference is scoped, -/
theorem scopedRefs_eq : (Finset.univ.filter fun b : Ref sig .tc => b.isScoped) = ∅ := by decide
/-- and no semaphore. -/
theorem scopedSems_eq : (Finset.univ.filter fun sm : SemLoc sig => sm.isScoped .tc) = ∅ := by decide

/-- The operations touch the TensorCore's buffers alone. -/
theorem ops_sub : (ops : List (HloOp τ sig (Elt F))).Forall fun op => op.bufs ⊆ tcRefs τ sig :=
  ⟨unary_bufs_sub .., unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., unary_bufs_sub .., binary_bufs_sub ..⟩

/-- The reference's run: it ends, its result `res` of the argument, the argument as it was, no semaphore to speak of. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem (c.tc.loc main_v21) = res (m (c.tc.loc main_arg0)) ∧ r.2.mem (c.tc.loc main_arg0) = m (c.tc.loc main_arg0)) ∧ r.2.sem = fun _ => 0 :=
  (θ_run defs _ _).mono (fun _ h => ⟨fun c => ⟨(h c main_v21).trans (out_eq _), (h c main_arg0).trans (arg0_eq _)⟩, funext fun g => nomatch g.2⟩)
    (run_seq scopedRefs_eq scopedSems_eq defs main (fun _ => ops) main_eq (fun _ => ops_sub) m ρ)

end Cert.Proof.R

end
-- ==== Proof.First.lean ====
/-
  The least index of the greatest of a run of numbers.
-/
module

public import Idealize.ShloMosaic.PureOps

@[expose] public section

namespace Cert.Proof

variable {α : Type} [LinearOrder α] {l : ℕ → α} {a b c k k' : ℕ}

/-- `k` is the least index, of those from `a` to below `b`, at which `l` is greatest. -/
structure FirstOn (l : ℕ → α) (a b k : ℕ) : Prop where
  lo : a ≤ k
  hi : k < b
  le : ∀ i, a ≤ i → i < b → l i ≤ l k
  lt : ∀ i, a ≤ i → i < k → l i < l k

/-- There is only one. -/
theorem FirstOn.unique (h : FirstOn l a b k) (h' : FirstOn l a b k') : k = k' := by
  rcases lt_trichotomy k k' with hk | hk | hk
  · exact absurd (h'.lt k h.lo hk) (not_lt.2 (h.le k' h'.lo h'.hi))
  · exact hk
  · exact absurd (h.lt k' h'.lo hk) (not_lt.2 (h'.le k h.lo h.hi))

/-- Of one number. -/
theorem FirstOn.single (l : ℕ → α) (a : ℕ) : FirstOn l a (a + 1) a :=
  ⟨le_rfl, a.lt_succ_self, fun i h h' => by obtain rfl : i = a := by omega
                                            exact le_rfl, fun i h h' => by omega⟩

/-- Of two runs, one after the other: the first's, unless the second's is greater. -/
theorem FirstOn.left (h : FirstOn l a b k) (h' : FirstOn l b c k') (hk : l k' ≤ l k) : FirstOn l a c k :=
  ⟨h.lo, h.hi.trans (h'.lo.trans_lt h'.hi),
    fun i ha hc => if hb : i < b then h.le i ha hb else (h'.le i (not_lt.1 hb) hc).trans hk, h.lt⟩

/-- The second's, if it is greater. -/
theorem FirstOn.right (h : FirstOn l a b k) (h' : FirstOn l b c k') (hk : l k < l k') : FirstOn l a c k' :=
  ⟨(h.lo.trans h.hi.le).trans h'.lo, h'.hi,
    fun i ha hc => if hb : i < b then (h.le i ha hb).trans hk.le else h'.le i (not_lt.1 hb) hc,
    fun i ha hc => if hb : i < b then (h.le i ha hb).trans_lt hk else h'.lt i (not_lt.1 hb) hc⟩

end Cert.Proof
-- ==== Proof.Kernelside.lean ====
/-
  The kernel's class of a group, at real arithmetic: the least index of the group's greatest number.
-/
module

public import proofs.«01_k».proof.Proof.Spec
public import proofs.«01_k».proof.Proof.First

@[expose] public section

noncomputable section

namespace Cert.Proof.K

open Cert.KernelIdeal Cert.KernelIdeal.Gen
open Idealize.ShloMosaic

/-- A choice by a decided bit. -/
theorem select_ofBool {α : Type} (p : Prop) [Decidable p] (a b : α) :
    Scalar.select (BitVec.ofBool (decide p)) a b = if p then a else b := by
  by_cases h : p <;> simp [h, Scalar.select]

section
variable (B : Blk Ideal) (w : BitVec 32) (x : S16.Idx)

/-- The numbers of group `w` in lane `x`'s row, in order. -/
def logits (i : ℕ) : EReal := B (pos1 42016 (by decide) (2626 * (x 0).val + 26 + 100 * w.toNat + i))

variable {w} (hw : w.toNat < 26)
include hw

/-- What chain `j` reads at its step `c`. -/
theorem gat_G {j c : ℕ} (hj : j < 5) (hc : c < 20) : gat B (G w j c) x = logits B w x (20 * j + c) := by
  show B (pos1 _ _ _) = B (pos1 _ _ _)
  rw [G_toNat hw hj x c hc.le]
  congr 2; omega

/-- A step of a chain, read at a lane. -/
theorem M_succ (j c : ℕ) : M B w j (c + 1) x = if M B w j c x < gat B (G w j c) x then gat B (G w j c) x else M B w j c x :=
  select_ofBool _ _ _
/-- The place that goes with it. -/
theorem X_succ (j c : ℕ) : X B w j (c + 1) x = if M B w j c x < gat B (G w j c) x then G w j c x else X B w j c x :=
  select_ofBool _ _ _
/-- A step of the combination, read at a lane. -/
theorem CM_succ (n : ℕ) : CM B w (n + 1) x = if CM B w n x ≤ M B w (3 - n) 20 x then M B w (3 - n) 20 x else CM B w n x :=
  select_ofBool _ _ _
/-- The place that goes with it. -/
theorem CX_succ (n : ℕ) : CX B w (n + 1) x = if CM B w n x ≤ M B w (3 - n) 20 x then X B w (3 - n) 20 x else CX B w n x :=
  select_ofBool _ _ _

/-- After `c + 1` steps chain `j` has the greatest of its first `c + 1` numbers, and where it was found first. -/
theorem chain {j : ℕ} (hj : j < 5) : ∀ c, c < 20 → ∃ k, FirstOn (logits B w x) (20 * j) (20 * j + (c + 1)) k ∧
    M B w j (c + 1) x = logits B w x k ∧ (X B w j (c + 1) x).toNat = 2626 * (x 0).val + 26 + 100 * w.toNat + k
  | 0, _ => by
    refine ⟨20 * j, .single _ _, ?_, ?_⟩
    · rw [M_succ B x hw, gat_G B x hw hj (by decide)]
      have h : M B w j 0 x = ⊥ := by
        show Ideal.ofBits .f32 0xFF800000#32 = ⊥
        simp [Ideal.ofBits, Ideal.ieee]
      rw [h]
      split
      · rfl
      · next hn => exact (not_bot_lt_iff.1 hn).symm
    · rw [X_succ B x hw]
      show (if _ then G w j 0 x else G w j 0 x).toNat = _
      rw [ite_self, G_toNat hw hj x 0 (by decide)]; rfl
  | c + 1, hc => by
    obtain ⟨k, hk, hM, hX⟩ := chain hj c (by omega)
    have h1 : FirstOn (logits B w x) (20 * j + (c + 1)) (20 * j + (c + 1 + 1)) (20 * j + (c + 1)) := .single _ _
    rw [M_succ B x hw, X_succ B x hw, gat_G B x hw hj hc, hM]
    by_cases h : logits B w x k < logits B w x (20 * j + (c + 1))
    · rw [if_pos h, if_pos h]
      exact ⟨_, hk.right h1 h, rfl, by rw [G_toNat hw hj x _ hc.le]; omega⟩
    · rw [if_neg h, if_neg h]
      exact ⟨k, hk.left h1 (not_lt.1 h), rfl, hX⟩

/-- The chains from `4 - n` on, combined. -/
theorem combined : ∀ n, n < 5 → ∃ k, FirstOn (logits B w x) (20 * (4 - n)) 100 k ∧
    CM B w n x = logits B w x k ∧ (CX B w n x).toNat = 2626 * (x 0).val + 26 + 100 * w.toNat + k
  | 0, _ => chain B x hw (by decide) 19 (by decide)
  | n + 1, hn => by
    obtain ⟨k, hk, hM, hX⟩ := combined n (by omega)
    obtain ⟨k', hk', hM', hX'⟩ := chain B x hw (j := 3 - n) (by omega) 19 (by decide)
    have e : 20 * (3 - n) + (19 + 1) = 20 * (4 - n) := by omega
    have e' : 4 - (n + 1) = 3 - n := by omega
    rw [e] at hk'
    rw [e', CM_succ B x hw, CX_succ B x hw, hM, hM']
    by_cases h : logits B w x k ≤ logits B w x k'
    · rw [if_pos h, if_pos h]
      exact ⟨k', hk'.left hk h, rfl, hX'⟩
    · rw [if_neg h, if_neg h]
      exact ⟨k, hk'.right hk (not_le.1 h), rfl, hX⟩

/-- The class is the least index of the group's greatest number. -/
theorem class_first {k : ℕ} (hk : FirstOn (logits B w x) 0 100 k) : subi (CX B w 4) (seg w) x = BitVec.ofNat 32 k := by
  obtain ⟨k', hk', -, hX⟩ := combined B x hw 4 (by decide)
  obtain rfl := hk.unique hk'
  have hx : (x 0).val < 16 := (x 0).isLt
  have h100 := hk.hi
  refine BitVec.eq_of_toNat_eq ?_
  show (CX B w 4 x - seg w x).toNat = _
  rw [BitVec.toNat_sub, hX, seg_toNat hw, BitVec.toNat_ofNat]; omega

end

end Cert.Proof.K

end
-- ==== Proof.Probs.lean ====
/-
  The reference's probabilities of one group, in real numbers: softmax, the clip from below, the renormalisation. They are
  ordered as the group's numbers are, and the greatest is above the rest as strictly.
-/
module

public import Idealize.ShloMosaic.PureOps
public import Idealize.ShloMosaic.PureOps.Ideal.Laws

@[expose] public section

noncomputable section

namespace Cert.Proof.R

open scoped BigOperators
open Idealize.ShloMosaic

variable (a : Fin 100 → ℝ) (t : ℝ)

/-- The bound of the clip. -/
def β : ℝ := 13743895 / 2 ^ 37

/-- The bound is positive -/
theorem β_pos : 0 < β := by unfold β; positivity
/-- and below a hundredth. -/
theorem β_lt : β < 1 / 100 := by unfold β; norm_num

/-- A number's exponential below the top. -/
def ex (i : Fin 100) : ℝ := Real.exp (a i - t)
/-- Its share. -/
def soft (i : Fin 100) : ℝ := ex a t i / ∑ k, ex a t k
/-- Its share, clipped from below. -/
def clip (i : Fin 100) : ℝ := max β (soft a t i)
/-- Its clipped share, renormalised. -/
def prob (i : Fin 100) : ℝ := clip a t i / ∑ k, clip a t k

/-- The exponentials' sum is positive, -/
theorem ex_sum_pos : 0 < ∑ k, ex a t k := Finset.sum_pos (fun _ _ => Real.exp_pos _) ⟨0, Finset.mem_univ _⟩
/-- a clipped share is, -/
theorem clip_pos (i : Fin 100) : 0 < clip a t i := lt_max_of_lt_left β_pos
/-- and their sum. -/
theorem clip_sum_pos : 0 < ∑ k, clip a t k := Finset.sum_pos (fun i _ => clip_pos a t i) ⟨0, Finset.mem_univ _⟩

variable {a} {k : Fin 100} (hk : ∀ i, a i ≤ a k)
include hk

/-- The greatest number's share is a hundredth at least. -/
theorem soft_top : 1 / 100 ≤ soft a t k := by
  unfold soft
  rw [div_le_div_iff₀ (by norm_num) (ex_sum_pos a t), one_mul, mul_comm]
  have h : ∑ i, ex a t i ≤ ∑ _i : Fin 100, ex a t k :=
    Finset.sum_le_sum fun i _ => Real.exp_le_exp.2 (sub_le_sub_right (hk i) t)
  simpa using h

/-- No probability is above the greatest number's. -/
theorem prob_le (i : Fin 100) : prob a t i ≤ prob a t k := by
  refine div_le_div_of_nonneg_right (max_le_max le_rfl ?_) (clip_sum_pos a t).le
  exact div_le_div_of_nonneg_right (Real.exp_le_exp.2 (sub_le_sub_right (hk i) t)) (ex_sum_pos a t).le

/-- A lesser number's is below it. -/
theorem prob_lt {i : Fin 100} (hi : a i < a k) : prob a t i < prob a t k := by
  refine div_lt_div_of_pos_right ?_ (clip_sum_pos a t)
  have h : soft a t i < soft a t k :=
    div_lt_div_of_pos_right (Real.exp_lt_exp.2 (sub_lt_sub_right hi t)) (ex_sum_pos a t)
  exact max_lt_iff.2 ⟨(β_lt.trans_le (soft_top t hk)).trans_le (le_max_right _ _), h.trans_le (le_max_right _ _)⟩

omit hk

/-! ## The same in extended reals -/

/-- The clip's bound is the printed constant's value. -/
theorem ofBits_bound : Ideal.ofBits .f32 0x38D1B717#32 = (β : EReal) := by
  unfold β
  simp [Ideal.ofBits, Ideal.ieee, -EReal.coe_mul]; norm_num

/-- The bottom of the order is the printed minus infinity. -/
theorem ofBits_bot : Ideal.ofBits .f32 0xFF800000#32 = ⊥ := by simp [Ideal.ofBits, Ideal.ieee]

/-- A sum of reals. -/
theorem coe_sum {ι : Type} (s : Finset ι) (f : ι → ℝ) : ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- A quotient of reals. -/
theorem coe_div {x y : ℝ} (hy : y ≠ 0) : Ideal.div (x : EReal) (y : EReal) = ((x / y : ℝ) : EReal) := by
  unfold Ideal.div
  rw [if_neg (by exact_mod_cast hy), div_eq_mul_inv, EReal.coe_mul, EReal.coe_inv]

/-- A maximum of reals. -/
theorem coe_max (x y : ℝ) : max (x : EReal) (y : EReal) = ((max x y : ℝ) : EReal) :=
  (EReal.coe_strictMono.monotone.map_max).symm

end Cert.Proof.R

end
-- ==== Proof.Refside.lean ====
/-
  The reference's class of a group, at real arithmetic on finite numbers: the least index of the group's greatest number.
-/
module

public import proofs.«01_k».proof.Proof.Ref
public import proofs.«01_k».proof.Proof.First
public import proofs.«01_k».proof.Proof.Probs
public import Idealize.ShloMosaic.Lib.Pointwise.Reduce
public import Idealize.ShloMosaic.Lib.IdealHost
public import Idealize.ShloMosaic.Lib.Pipeline.Value

@[expose] public section

noncomputable section

namespace Cert.Proof.R

open Cert.ReferenceIdeal Cert.ReferenceIdeal.Gen
open Idealize.ShloMosaic
open scoped BigOperators

/-! ## The argmax -/

/-- `p` is the answer against `q`: greater, or as great and of a lesser index. -/
def Beats (p q : EReal × BitVec 32) : Prop := q = p ∨ q.1 < p.1 ∨ (q.1 = p.1 ∧ p.2.toInt < q.2.toInt)

/-- The argmax's step at real arithmetic. -/
theorem red_eq (a b : EReal × BitVec 32) : reducer_argmax_f32_i32 (F := Ideal) a b =
    (if b.1 < a.1 then a.1 else b.1, if b.1 < a.1 ∨ (a.1 = b.1 ∧ a.2.toInt < b.2.toInt) then a.2 else b.2) := by
  have h2 : IntOp.cmpi .slt a.2 b.2 = BitVec.ofBool (decide (a.2.toInt < b.2.toInt)) := by
    simp [IntOp.cmpi, BitVec.slt]
  have h1 : ∀ p, FloatOps.cmpf (F := Ideal) (φ := .f32) p a.1 b.1 = Ideal.cmp p a.1 b.1 := fun _ => rfl
  have h3 : FloatOps.cmpf (F := Ideal) (φ := .f32) .une a.1 a.1 = 0#1 := by
    show Ideal.cmp _ a.1 a.1 = _
    simp [Ideal.cmp]
  unfold reducer_argmax_f32_i32
  simp only [h1, h2, h3]
  by_cases c1 : b.1 < a.1 <;> by_cases c2 : a.1 = b.1 <;> by_cases c3 : a.2.toInt < b.2.toInt <;>
    simp [Ideal.cmp, c1, c2, c3, Scalar.select, IntOp.ori, IntOp.andi]

/-- A step keeps one of the two. -/
theorem red_or (a b : EReal × BitVec 32) : reducer_argmax_f32_i32 (F := Ideal) a b = a ∨ reducer_argmax_f32_i32 (F := Ideal) a b = b := by
  rw [red_eq]
  rcases lt_trichotomy b.1 a.1 with h | h | h
  · left; simp [h]
  · by_cases h' : a.2.toInt < b.2.toInt
    · left; simp only [h, h', lt_self_iff_false, true_and, or_true, if_true, if_false]
    · right; simp only [h, h', lt_self_iff_false, and_false, or_false, if_false]
      exact Prod.ext h.symm rfl
  · right; simp [h.not_gt, h.ne]

/-- The answer stays, -/
theorem red_left {p q : EReal × BitVec 32} (h : Beats p q) : reducer_argmax_f32_i32 (F := Ideal) p q = p := by
  rcases h with rfl | h | ⟨h, h'⟩
  · exact (red_or q q).elim id id
  · rw [red_eq]; simp [h]
  · rw [red_eq]; simp [h, h']

/-- and is taken. -/
theorem red_right {p q : EReal × BitVec 32} (h : Beats p q) : reducer_argmax_f32_i32 (F := Ideal) q p = p := by
  rcases h with rfl | h | ⟨h, h'⟩
  · exact (red_or q q).elim id id
  · rw [red_eq]; simp [h.not_gt, h.ne]
  · rw [red_eq]; simp [h, h'.not_gt]

/-- Of a list with an answer against all the others and the initial pair, the argmax gives the answer. -/
theorem foldl_red {p : EReal × BitVec 32} : ∀ (L : List (EReal × BitVec 32)) (a : EReal × BitVec 32), Beats p a →
    (∀ q ∈ L, Beats p q) → (a = p ∨ p ∈ L) → L.foldl (reducer_argmax_f32_i32 (F := Ideal)) a = p
  | [], a, _, _, h => by simpa using h
  | q :: L, a, ha, hL, h => by
    rw [List.foldl_cons]
    have hq := hL q (by simp)
    have hs : Beats p (reducer_argmax_f32_i32 (F := Ideal) a q) := by
      rcases red_or a q with e | e <;> rw [e] <;> assumption
    refine foldl_red L _ hs (fun r hr => hL r (by simp [hr])) ?_
    rcases h with rfl | h
    · exact .inl (red_left hq)
    · rcases List.mem_cons.1 h with rfl | h
      · exact .inl (red_right ha)
      · exact .inr h

/-! ## Reductions along the last of three axes -/

section Axis
variable {n0 n1 n2 : ℕ} {t u : Shape} (h : (⟨3, ![n0, n1, n2]⟩ : Shape).ReducesTo [2] t) (hu : 0 < u.numel) (j : t.Idx)

/-- The `k`th position over a result's index. -/
def over (k : Fin n2) : (⟨3, ![n0, n1, n2]⟩ : Shape).Idx :=
  ix3 ⟨(j ⟨0, h.lt_r3_a2_0⟩).val, Shape.coordLt (j ⟨0, h.lt_r3_a2_0⟩) h.size_r3_a2_0⟩
    ⟨(j ⟨1, h.lt_r3_a2_1⟩).val, Shape.coordLt (j ⟨1, h.lt_r3_a2_1⟩) h.size_r3_a2_1⟩ k

/-- A maximum along the axis. -/
theorem reduce_max (z : FVec Ideal ⟨3, ![n0, n1, n2]⟩ .f32) (init : FVec Ideal u .f32) :
    Host.reduce FloatOps.maximumf z init h hu j =
      (Finset.univ : Finset (Fin n2)).fold (max : EReal → EReal → EReal) (init (Shape.Idx.first hu)) (fun k => z (over h j k)) :=
  (Host.reduce_eq_fold (max : EReal → EReal → EReal) z init h hu j).trans (h.fold_fiber_r3_a2 j _ _ _)

/-- An argmax along the axis, given the answer. -/
theorem argReduce_of_beats (z : FVec Ideal ⟨3, ![n0, n1, n2]⟩ .f32) (y : IVec ⟨3, ![n0, n1, n2]⟩ 32) (iz : FVec Ideal u .f32) (iy : IVec u 32)
    (k : Fin n2) (h0 : Beats (z (over h j k), y (over h j k)) (iz (Shape.Idx.first hu), iy (Shape.Idx.first hu)))
    (hk : ∀ i, Beats (z (over h j k), y (over h j k)) (z (over h j i), y (over h j i))) :
    Host.argReduce (reducer_argmax_f32_i32 (F := Ideal)) z y iz iy h hu j = (z (over h j k), y (over h j k)) := by
  rw [Ideal.argReduce_eq_reduce2, Host.reduce2_eq_foldl_fiber]
  refine foldl_red _ _ h0 (fun q hq => ?_) (.inr ?_)
  · obtain ⟨m, hm, rfl⟩ := List.mem_map.1 hq
    obtain ⟨i, hi⟩ := (h.fiber_r3_a2 j _).1 (of_decide_eq_true (List.mem_filter.1 hm).2)
    rw [← hi]
    exact hk i
  · refine List.mem_map.2 ⟨Shape.rowMajor _ (over h j k), List.mem_filter.2 ⟨List.mem_finRange _, decide_eq_true ?_⟩, ?_⟩
    · rw [Equiv.symm_apply_apply]
      exact (h.fiber_r3_a2 j _).2 ⟨k, rfl⟩
    · rw [Equiv.symm_apply_apply]

end Axis

/-! ## The stages, read at an index -/

/-- Position `k` of group `g` of row `r`. -/
abbrev at3 (r : Fin 16384) (g : Fin 26) (k : Fin 100) : S16384x26x100.Idx := ix3 r g k
/-- Group `g` of row `r`. -/
abbrev at2 (r : Fin 16384) (g : Fin 26) : S16384x26.Idx := ix2 r g

/-- A small number's word, read back. -/
theorem toInt_ofNat (i : Fin 100) : (BitVec.ofNat 32 i.val).toInt = i.val := by
  have h := i.isLt
  have e : (BitVec.ofNat 32 i.val).toNat = i.val := by rw [BitVec.toNat_ofNat]; omega
  rw [BitVec.toInt_eq_toNat_of_lt (by rw [e]; omega), e]

variable (r : Fin 16384) (g : Fin 26)

/-- A value a group, read anywhere in the group. -/
theorem spread_apply (y : FVec Ideal S16384x26 .f32) (k : Fin 100) : spread y (at3 r g k) = y (at2 r g) := by
  unfold spread
  rw [broadcastInDim_apply _ _ _ _ (ix3 r g 0) (fun a => by fin_cases a <;> rfl)]
  exact broadcastInDim_apply _ _ _ _ (at2 r g) (fun a => by fin_cases a <;> rfl)

/-- The positions over a group's index are the group's. -/
theorem over_eq (k : Fin 100) : over reducesTo_S16384x26x100_S16384x26_d2 (at2 r g) k = at3 r g k := rfl

/-- The indices that the argmax is given count along the group. -/
theorem iota_apply (k : Fin 100) : iotaInDim S16384x26x100 32 2 (at3 r g k) = BitVec.ofNat 32 k.val := rfl

variable {r g} {z : FVec Ideal S16384x26x100 .f32} {a : Fin 100 → ℝ}

/-- A group's top is its greatest number. -/
theorem top_apply {k : Fin 100} (hz : ∀ i, z (at3 r g i) = (a i : EReal)) (hk : ∀ i, a i ≤ a k) : top z (at2 r g) = (a k : EReal) := by
  unfold top
  rw [show ∀ u v : FVec Ideal S16384x26 .f32, maximumf u v (at2 r g) = max (u (at2 r g)) (v (at2 r g)) from fun _ _ => rfl, reduce_max,
    show ∀ h, broadcastInDim S16384x26 ![] h (constant (F := Ideal) S_ .f32 0xFF800000#32) (at2 r g) = ⊥ from fun _ => ofBits_bot,
    show constant (F := Ideal) S_ .f32 0xFF800000#32 (Shape.Idx.first h_S_) = ⊥ from ofBits_bot, max_eq_right bot_le]
  refine le_antisymm ((Finset.fold_max_le _).2 ⟨bot_le, fun i _ => ?_⟩) ((Finset.le_fold_max _).2 (.inr ⟨k, Finset.mem_univ _, ?_⟩))
  · exact (hz i).le.trans (EReal.coe_le_coe_iff.2 (hk i))
  · exact (hz k).ge

/-- A group's shares of its sum. -/
theorem normed_apply (hz : ∀ i, z (at3 r g i) = (a i : EReal)) (h0 : ∑ i, a i ≠ 0) (k : Fin 100) :
    normed z (at3 r g k) = ((a k / ∑ i, a i : ℝ) : EReal) := by
  unfold normed
  rw [ValueIdx.hostDivf_apply, spread_apply, ValueIdx.hostReduceAdd_apply, Ideal.hostReduceAdd_r3_a2]
  have h1 : (constant (F := Ideal) S_ .f32 0x00000000#32) (Shape.Idx.first h_S_) = 0 := Ideal.ofBits_zero_f32
  have h2 : ∑ i : Fin 100, z (at3 r g i) = ((∑ i, a i : ℝ) : EReal) := by
    rw [← coe_sum]; exact Finset.sum_congr rfl fun i _ => hz i
  rw [h1, zero_add]
  exact (congrArg₂ Ideal.div (hz k) h2).trans (coe_div h0)

variable {x : FVec Ideal S16384x2626 .f32} {k : Fin 100} (hx : ∀ i, groups x (at3 r g i) = (a i : EReal)) (hk : ∀ i, a i ≤ a k)
include hx hk

/-- The exponentials, -/
theorem expd_apply (i : Fin 100) : expd x (at3 r g i) = (ex a (a k) i : EReal) := by
  show Ideal.exp (groups x (at3 r g i) - spread (top (groups x)) (at3 r g i)) = _
  rw [spread_apply, top_apply hx hk, hx, ← EReal.coe_sub]
  rfl

/-- the clipped shares. -/
theorem clipped_apply (i : Fin 100) : clipped x (at3 r g i) = (clip a (a k) i : EReal) := by
  show max (Ideal.ofBits .f32 0x38D1B717#32) (normed (expd x) (at3 r g i)) = _
  rw [normed_apply (expd_apply hx hk) (ex_sum_pos a (a k)).ne', ofBits_bound, coe_max]
  rfl

/-- The reference's probabilities. -/
theorem probs_apply (i : Fin 100) : probs x (at3 r g i) = (prob a (a k) i : EReal) :=
  normed_apply (clipped_apply hx hk) (clip_sum_pos a (a k)).ne' i

omit hx in
/-- The greatest number's probability is the answer, given that it comes first. -/
theorem beats_prob (hlt : ∀ i, i < k → a i < a k) (i : Fin 100) :
    Beats ((prob a (a k) k : EReal), BitVec.ofNat 32 k.val) ((prob a (a k) i : EReal), BitVec.ofNat 32 i.val) := by
  rcases lt_trichotomy i k with h | rfl | h
  · exact .inr (.inl (EReal.coe_lt_coe_iff.2 (prob_lt _ hk (hlt i h))))
  · exact .inl rfl
  · rcases (prob_le (a k) hk i).lt_or_eq with h' | h'
    · exact .inr (.inl (EReal.coe_lt_coe_iff.2 h'))
    · refine .inr (.inr ⟨congrArg (fun v : ℝ => (v : EReal)) h', ?_⟩)
      show (BitVec.ofNat 32 k.val).toInt < (BitVec.ofNat 32 i.val).toInt
      rw [toInt_ofNat, toInt_ofNat]
      exact_mod_cast h

/-- The reference's probabilities and indices. -/
theorem pair_apply (i : Fin 100) : (probs x (at3 r g i), iotaInDim S16384x26x100 32 2 (at3 r g i)) = ((prob a (a k) i : EReal), BitVec.ofNat 32 i.val) :=
  Prod.ext (probs_apply hx hk i) (iota_apply r g i)

omit hx hk in
/-- A group's category is the second of the argmax's two results. -/
theorem cat_def (x : FVec Ideal S16384x2626 .f32) : cat x = fun j =>
    (Host.argReduce reducer_argmax_f32_i32 (probs x) (iotaInDim S16384x26x100 32 2) (constant S_ .f32 0xFF800000#32) (constantI S_ 32 0#32)
      reducesTo_S16384x26x100_S16384x26_d2 h_S_ j).2 := rfl

/-- The class is the least index of the group's greatest number. -/
theorem cat_apply (hlt : ∀ i, i < k → a i < a k) : cat x (at2 r g) = BitVec.ofNat 32 k.val := by
  have h0 : Beats ((prob a (a k) k : EReal), BitVec.ofNat 32 k.val)
      (constant (F := Ideal) S_ .f32 0xFF800000#32 (Shape.Idx.first h_S_), constantI S_ 32 0#32 (Shape.Idx.first h_S_)) := by
    refine .inr (.inl ?_)
    show Ideal.ofBits .f32 0xFF800000#32 < _
    rw [ofBits_bot]
    exact EReal.bot_lt_coe _
  have e := argReduce_of_beats reducesTo_S16384x26x100_S16384x26_d2 h_S_ (at2 r g) (probs x) (iotaInDim S16384x26x100 32 2)
    (constant S_ .f32 0xFF800000#32) (constantI S_ 32 0#32) k (by rw [over_eq, pair_apply hx hk]; exact h0)
    (fun i => by rw [over_eq, over_eq, pair_apply hx hk, pair_apply hx hk]; exact beats_prob hk hlt i)
  rw [over_eq, pair_apply hx hk] at e
  exact (congrFun (cat_def x) (at2 r g)).trans (congrArg Prod.snd e)

omit hk in
/-- The same, of the group's numbers as a sequence. -/
theorem cat_first {l : ℕ → EReal} (hl : ∀ i : Fin 100, l i.val = (a i : EReal)) {n : ℕ} (hn : FirstOn l 0 100 n) :
    cat x (at2 r g) = BitVec.ofNat 32 n := by
  obtain ⟨k, rfl⟩ : ∃ k : Fin 100, k.val = n := ⟨⟨n, hn.hi⟩, rfl⟩
  refine cat_apply hx (fun i => ?_) (fun i hi => ?_)
  · have h := hn.le i.val (Nat.zero_le _) i.isLt
    rw [hl, hl] at h; exact_mod_cast h
  · have h := hn.lt i.val (Nat.zero_le _) hi
    rw [hl, hl] at h; exact_mod_cast h

end Cert.Proof.R

end
-- ==== Proof.Equation.lean ====
/-
  The equation: on finite inputs, at real arithmetic, the kernel's result is the reference's.
-/
module

public import proofs.«01_k».proof.Defs
public import proofs.«01_k».proof.Proof.Gen.Pre_finite
public import proofs.«01_k».proof.Proof.Launch
public import proofs.«01_k».proof.Proof.Kernelside
public import proofs.«01_k».proof.Proof.Refside
public import Idealize.ShloMosaic.Lib.Pointwise.ShapeOpsCore

@[expose] public section

noncomputable section

namespace Cert.Proof

open Idealize.ShloMosaic
open Cert.KernelIdeal (S16384x2626 S16384x39 S43024384 S638976 S16)

/-! ## The precondition -/

/-- If a conjunction of bits is one, each is. -/
theorem fold_andi {ι : Type} (s : Finset ι) (f : ι → BitVec 1) (b : BitVec 1) (h : s.fold IntOp.andi b f = 1#1) :
    ∀ i ∈ s, f i = 1#1 := by
  classical
  have and_one : ∀ c d : BitVec 1, IntOp.andi c d = 1#1 → c = 1#1 ∧ d = 1#1 := by decide
  induction s using Finset.induction_on with
  | empty => simp
  | insert i s hi ih =>
    rw [Finset.fold_insert hi] at h
    obtain ⟨h1, h2⟩ := and_one _ _ h
    intro k hk
    rcases Finset.mem_insert.1 hk with rfl | hk
    · exact h1
    · exact ih h2 k hk

/-- The same of a reduction by conjunction. -/
theorem reduce_andi {s t u : Shape} {axes : List (Fin s.rank)} (x : IVec s 1) (init : IVec u 1) (h : s.ReducesTo axes t) (hu : 0 < u.numel)
    (j : t.Idx) (e : Host.reduce IntOp.andi x init h hu j = 1#1) (i : s.Idx) (hi : h.drop i = j) : x i = 1#1 := by
  rw [Host.reduce_eq_fold] at e
  exact fold_andi _ _ _ e i (Finset.mem_filter.2 ⟨Finset.mem_univ _, hi⟩)

/-- An extended real below infinity in absolute value is a real. -/
theorem real_of_abs {v : EReal} (h : max v (-v) < ⊤) : ∃ a : ℝ, v = (a : EReal) := by
  obtain ⟨h1, h2⟩ := max_lt_iff.1 h
  refine ⟨v.toReal, (EReal.coe_toReal h1.ne ?_).symm⟩
  rintro rfl
  simp at h2

variable {x : S16384x2626.Idx → EReal}

/-- Finite inputs are reals. -/
theorem real_of_pre (h : Cert.Pre_finite.fn (F := Ideal) x = fun _ => 1#1) (i : S16384x2626.Idx) : ∃ a : ℝ, x i = (a : EReal) := by
  have e := reduce_andi _ _ _ _ (ix0 : Cert.Pre_finite.S_.Idx) (congrFun h ix0) i (funext fun a => a.elim0)
  have e' : BitVec.ofBool (decide (max (x i) (-x i) < Ideal.ofBits .f32 0x7F800000#32)) = 1#1 := e
  have ht : Ideal.ofBits .f32 0x7F800000#32 = ⊤ := by simp [Ideal.ofBits, Ideal.ieee]
  rw [ht] at e'
  refine real_of_abs ?_
  by_contra hn
  simp [hn] at e'

/-! ## The kernel's result at an index -/

/-- The flat input's words are the input's. -/
theorem flat_apply (h : S16384x2626.ShapeCasts S43024384) (r : Fin 16384) (c : Fin 2626) :
    shapeCast S43024384 x h (K.pos1 43024384 (by decide) (2626 * r.val + c.val)) = x (ix2 r c) := by
  refine shapeCast_apply _ _ _ _ ?_
  have hr := r.isLt
  have hc := c.isLt
  rw [Shape.rowMajor_val_two, Shape.rowMajor_val_one]
  show r.val * 2626 + c.val = (2626 * r.val + c.val) % 43024384
  omega

/-- A block's words are the input's. -/
theorem blk_apply (h : S16384x2626.ShapeCasts S43024384) (r : Fin 16384) (c : Fin 2626) {n : ℕ} (hn : n = 2626 * (r.val % 16) + c.val) :
    K.blk (F := Ideal) (shapeCast S43024384 x h) (r.val / 16) (K.pos1 42016 (by decide) n) = x (ix2 r c) := by
  have hr := r.isLt
  have hc := c.isLt
  refine Eq.trans ?_ (flat_apply h r c)
  show shapeCast S43024384 x h (K.pos1 _ _ _) = _
  congr 2
  show 42016 * (r.val / 16) + n % 42016 = _
  omega

/-- A row's lane. -/
theorem lane_val (n : ℕ) : ((K.laneIx (n % 16)) 0).val = n % 16 := Nat.mod_mod n 16

/-- A group's numbers are the input's. -/
theorem logits_apply (h : S16384x2626.ShapeCasts S43024384) (r : Fin 16384) (g : Fin 26) (k : Fin 100) :
    K.logits (K.blk (F := Ideal) (shapeCast S43024384 x h) (r.val / 16)) (BitVec.ofNat 32 g.val) (K.laneIx (r.val % 16)) k.val
      = x (ix2 r ⟨26 + 100 * g.val + k.val, by omega⟩) := by
  have hg := g.isLt
  refine blk_apply h r _ ?_
  rw [lane_val, BitVec.toNat_ofNat]
  show _ = 2626 * (r.val % 16) + (26 + 100 * g.val + k.val)
  omega

/-- The kernel's result, a column of a block. -/
theorem RES_apply (r : Fin 16384) (j : Fin 39) : K.RES (F := Ideal) x (ix2 r j) =
    K.colVec (K.blk (F := Ideal) (shapeCast S43024384 x Cert.KernelIdeal.Gen.shapeCasts_S16384x2626_S43024384) (r.val / 16)) j.val (K.laneIx (r.val % 16)) := by
  have hr := r.isLt
  have hj := j.isLt
  unfold K.RES
  rw [shapeCast_apply _ _ _ (K.pos1 638976 (by decide) (39 * r.val + j.val)) (by
    rw [Shape.rowMajor_val_two, Shape.rowMajor_val_one]
    show (39 * r.val + j.val) % 638976 = r.val * 39 + j.val
    omega)]
  have e : ((K.pos1 638976 (by decide) (39 * r.val + j.val)) 0).val = 39 * r.val + j.val := Nat.mod_eq_of_lt (by omega)
  unfold K.OUT K.outWord
  rw [e, show 0 + (39 * r.val + j.val) / 624 = r.val / 16 by omega, show (39 * r.val + j.val) % 624 % 39 = j.val by omega,
    show (39 * r.val + j.val) % 624 / 39 = r.val % 16 by omega]

/-- Its means. -/
theorem RES_mean (r : Fin 16384) (j : Fin 13) : K.RES (F := Ideal) x (ix2 r ⟨j.val, by omega⟩) = x (ix2 r ⟨2 * j.val, by omega⟩) := by
  have hj := j.isLt
  rw [RES_apply]
  unfold K.colVec
  rw [if_pos hj]
  refine blk_apply _ r _ ?_
  show _ = 2626 * (r.val % 16) + 2 * j.val
  rw [K.mu_toNat (show 2 * j.val < 26 by omega), lane_val]

/-! ## The reference's groups -/

/-- A group's numbers are the input's. -/
theorem groups_apply (r : Fin 16384) (g : Fin 26) (k : Fin 100) :
    R.groups (F := Ideal) x (R.at3 r g k) = x (ix2 r ⟨26 + 100 * g.val + k.val, by omega⟩) := by
  have hr := r.isLt
  have hg := g.isLt
  have hk := k.isLt
  unfold R.groups
  rw [shapeCast_apply _ _ _ (ix2 r (⟨100 * g.val + k.val, by omega⟩ : Fin 2600)) (by
    rw [Shape.rowMajor_val_two, Shape.rowMajor_val_three]
    show r.val * 2600 + (100 * g.val + k.val) = (r.val * 26 + g.val) * 100 + k.val
    omega)]
  refine extractStridedSlice_apply _ _ _ _ _ fun a => ?_
  fin_cases a
  · show r.val = 0 + r.val
    omega
  · show 26 + 100 * g.val + k.val = 26 + (100 * g.val + k.val)
    omega

/-- The means are the input's. -/
theorem mean_apply (r : Fin 16384) (j : Fin 13) : R.mean (F := Ideal) x (ix2 r j) = x (ix2 r ⟨2 * j.val, by omega⟩) := by
  unfold R.mean
  rw [Host.slice_apply]
  refine congrArg x (funext fun a => Fin.ext ?_)
  fin_cases a
  · show 0 + 1 * r.val = r.val
    omega
  · show 0 + 2 * j.val = 2 * j.val
    omega

/-- The reference's result: its means, -/
theorem res_mean (r : Fin 16384) (j : Fin 13) : R.res (F := Ideal) x (ix2 r ⟨j.val, by omega⟩) = x (ix2 r ⟨2 * j.val, by omega⟩) := by
  unfold R.res
  refine Eq.trans (concatenate_pair_apply_left (t := Cert.ReferenceIdeal.S16384x39) (s₁ := Cert.ReferenceIdeal.S16384x13) _ _ _ _ _ rfl (ix2 r j) fun b => ?_) (mean_apply r j)
  fin_cases b <;> rfl

/-- and its classes. -/
theorem res_class (r : Fin 16384) (g : Fin 26) : R.res (F := Ideal) x (ix2 r ⟨13 + g.val, by omega⟩)
    = (((R.cat (F := Ideal) x (R.at2 r g)).toInt : ℝ) : EReal) := by
  unfold R.res
  refine Eq.trans (concatenate_pair_apply_right (t := Cert.ReferenceIdeal.S16384x39) (s₁ := Cert.ReferenceIdeal.S16384x13) (s₂ := Cert.ReferenceIdeal.S16384x26) _ _ _ _ _ rfl rfl (R.at2 r g) (fun b hb => ?_) ?_) rfl
  · fin_cases b
    · rfl
    · exact absurd rfl hb
  · show g.val + 13 = 13 + g.val
    omega

/-! ## The equation -/

/-- The classes agree. -/
theorem class_eq (h : ∀ i, ∃ a : ℝ, x i = (a : EReal)) (r : Fin 16384) (g : Fin 26) :
    K.RES (F := Ideal) x (ix2 r ⟨13 + g.val, by omega⟩) = (((R.cat (F := Ideal) x (R.at2 r g)).toInt : ℝ) : EReal) := by
  have hg := g.isLt
  choose a ha using h
  have hw : (BitVec.ofNat 32 g.val).toNat < 26 := by rw [BitVec.toNat_ofNat]; omega
  rw [RES_apply]
  unfold K.colVec
  rw [if_neg (show ¬ 13 + g.val < 13 by omega), show 13 + g.val - 13 = g.val by omega]
  generalize hB : K.blk (F := Ideal) (shapeCast S43024384 x Cert.KernelIdeal.Gen.shapeCasts_S16384x2626_S43024384) (r.val / 16) = B
  obtain ⟨k, hk, -⟩ := K.combined B (K.laneIx (r.val % 16)) hw 4 (by decide)
  have hc := R.cat_first (fun i => (groups_apply r g i).trans (ha _))
    (l := K.logits B (BitVec.ofNat 32 g.val) (K.laneIx (r.val % 16))) (fun i => by rw [← hB, logits_apply, ha]) hk
  rw [hc, ← K.class_first B _ hw hk]
  rfl

/-- On finite inputs the results agree. -/
theorem res_eq (h : Cert.Pre_finite.fn (F := Ideal) x = fun _ => 1#1) : K.RES (F := Ideal) x = R.res (F := Ideal) x := by
  funext i
  obtain ⟨r, j, rfl⟩ : ∃ (r : Fin 16384) (j : Fin 39), ix2 r j = i := ⟨i 0, i 1, ix2_eta i⟩
  by_cases hj : j.val < 13
  · exact (RES_mean r ⟨j.val, hj⟩).trans (res_mean r ⟨j.val, hj⟩).symm
  · obtain ⟨g, hg⟩ : ∃ g : Fin 26, j.val = 13 + g.val := ⟨⟨j.val - 13, by omega⟩, by show j.val = 13 + (j.val - 13); omega⟩
    rw [show j = ⟨13 + g.val, by omega⟩ from Fin.ext hg]
    exact (class_eq (real_of_pre h) r g).trans (res_class r g).symm

end Cert.Proof

end
-- ==== Proof.lean ====
/-
  The proof of `Cert.Claim`: the frames of the kernel, its idealization and the reference, and the equality of the
  kernel's and the reference's results at real arithmetic on finite inputs. The kernel and its idealization are one text,
  so one run (Proof/Launch.lean), stated for any interpretation of the float types, serves both.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_finite
public import proofs.«01_k».proof.Proof.Launch
public import proofs.«01_k».proof.Proof.Ref
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel ends, its argument as it was, every semaphore at zero. -/
theorem frame_kernel : Cert.quiescent_Kernel := fun m ρ _ =>
  (θ_run Cert.KernelIdeal.defs _ _).mono (fun _ h => ⟨fun c => (h.1 c).1, h.2⟩) (K.run_main (F := Bits) m ρ)

/-- So does its idealization, -/
theorem frame_kernelIdeal : Cert.quiescent_KernelIdeal := fun m ρ _ =>
  (θ_run Cert.KernelIdeal.defs _ _).mono (fun _ h => ⟨fun c => (h.1 c).1, h.2⟩) (K.run_main (F := Ideal) m ρ)

/-- and the reference. -/
theorem frame_reference : Cert.quiescent_ReferenceIdeal := fun m ρ _ =>
  (θ_run Cert.ReferenceIdeal.defs _ _).mono (fun _ h => ⟨fun c => (h.1 c).2, h.2⟩) (R.run_main (F := Ideal) m ρ)

/-- The kernel's result is the reference's, at real arithmetic, on finite inputs. -/
theorem algebraic : Cert.algebraic_KernelIdeal_ReferenceIdeal_pre_finite := fun m g m' g' hpre hag => by
  refine ⟨fun c => K.RES (F := Ideal) (m (c.tc.loc Cert.KernelIdeal.main_arg0)), ?_, ?_⟩
  · exact (θ_run Cert.KernelIdeal.defs _ _).mono (fun _ h c => ⟨(h.1 c).2, (h.1 c).1⟩) (K.run_main (F := Ideal) m g)
  · exact (θ_run Cert.ReferenceIdeal.defs _ _).mono
      (fun _ h c => ⟨(h.1 c).1.trans ((congrArg R.res (hag c)).trans (res_eq (hpre c)).symm), (h.1 c).2⟩) (R.run_main (F := Ideal) m' g')

/-- The claims. -/
theorem claim : Cert.Claim := ⟨Cert.Kernel.Gen.facts, Cert.KernelIdeal.Gen.facts, Cert.ReferenceIdeal.Gen.facts, Cert.Pre_finite.Gen.facts,
  frame_kernel, frame_kernelIdeal, fun m ρ _ => frame_kernelIdeal m ρ trivial, frame_reference, fun m ρ _ => frame_reference m ρ trivial, trivial, algebraic⟩

end Cert.Proof

end
